-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_finite_maximum [hPre_rows_have_a_finite_maximum : Cert.Pre_rows_have_a_finite_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_finite_maximum.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_finite_maximum [hPre_rows_have_a_finite_maximum : Cert.Pre_rows_have_a_finite_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_finite_maximum.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_a_finite_maximum [hKernelIdeal : Cert.KernelIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_finite_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_a_finite_maximum [hReferenceIdeal : Cert.ReferenceIdeal.Facts] [hPre_rows_have_a_finite_maximum : Cert.Pre_rows_have_a_finite_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_finite_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_have_a_finite_maximum [hKernelIdeal : Cert.KernelIdeal.Facts] [hReferenceIdeal : Cert.ReferenceIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_finite_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_a_finite_maximum : Cert.Pre_rows_have_a_finite_maximum.Facts),
    quiescent_Kernel (hKernel := hKernel)
    ∧ quiescent_KernelIdeal (hKernelIdeal := hKernelIdeal)
    ∧ quiescent_KernelIdeal_pre_rows_have_a_finite_maximum (hKernelIdeal := hKernelIdeal) (hPre_rows_have_a_finite_maximum := hPre_rows_have_a_finite_maximum)
    ∧ quiescent_ReferenceIdeal (hReferenceIdeal := hReferenceIdeal)
    ∧ quiescent_ReferenceIdeal_pre_rows_have_a_finite_maximum (hReferenceIdeal := hReferenceIdeal) (hPre_rows_have_a_finite_maximum := hPre_rows_have_a_finite_maximum)
    ∧ preserves_Kernel_KernelIdeal
    ∧ algebraic_KernelIdeal_ReferenceIdeal_pre_rows_have_a_finite_maximum (hKernelIdeal := hKernelIdeal) (hReferenceIdeal := hReferenceIdeal) (hPre_rows_have_a_finite_maximum := hPre_rows_have_a_finite_maximum)
-- ==== Pre_rows_have_a_finite_maximum.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)

variable [Facts]

def fn {F : FTy → Type} [FloatOps F] (main_arg0 : FVec F S128x100000 .f32) : IVec S128 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : IVec S128 1 := cmpf .ogt main_v0 main_v1
  let main_cst_1 : FVec F S_ .f32 := constant S_ .f32 0x7F800000#32
  let main_v3 : FVec F S128 .f32 := broadcastInDim S128 ![] bcast_S_S128 main_cst_1
  let main_v4 : IVec S128 1 := cmpf .olt main_v0 main_v3
  let main_v5 : IVec S128 1 := andi main_v2 main_v4
  main_v5
-- ==== Kernel.lean ====
abbrev S128x100000 : Shape := ⟨2, ![128, 100000]⟩
abbrev S25x128x1 : Shape := ⟨3, ![25, 128, 1]⟩
abbrev S128x4096 : Shape := ⟨2, ![128, 4096]⟩
abbrev S1x128x1 : Shape := ⟨3, ![1, 128, 1]⟩
abbrev S128x1024 : Shape := ⟨2, ![128, 1024]⟩
abbrev S128 : Shape := ⟨1, ![128]⟩
abbrev S128x1 : Shape := ⟨2, ![128, 1]⟩
abbrev S128x16384 : Shape := ⟨2, ![128, 16384]⟩

abbrev nBuf : Space → Nat
  | .hbm => 4
  | .vmem => 10
  | .smem => 0
  | _ => 0

abbrev bufTy : (tb : Table) → Fin (tcTables nBuf tb) → BufTy
  | .hbm, ⟨0, _⟩ => ⟨S128x100000, .f32⟩
  | .hbm, ⟨1, _⟩ => ⟨S25x128x1, .f32⟩
  | .hbm, ⟨2, _⟩ => ⟨S25x128x1, .i32⟩
  | .hbm, ⟨3, _⟩ => ⟨S128x100000, .f32⟩
  | .local _ .vmem, ⟨0, _⟩ => ⟨S128x4096, .f32⟩
  | .local _ .vmem, ⟨1, _⟩ => ⟨S128x4096, .f32⟩
  | .local _ .vmem, ⟨2, _⟩ => ⟨S1x128x1, .f32⟩
  | .local _ .vmem, ⟨3, _⟩ => ⟨S1x128x1, .f32⟩
  | .local _ .vmem, ⟨4, _⟩ => ⟨S1x128x1, .i32⟩
  | .local _ .vmem, ⟨5, _⟩ => ⟨S1x128x1, .i32⟩
  | .local _ .vmem, ⟨6, _⟩ => ⟨S25x128x1, .f32⟩
  | .local _ .vmem, ⟨7, _⟩ => ⟨S25x128x1, .i32⟩
  | .local _ .vmem, ⟨8, _⟩ => ⟨S128x16384, .f32⟩
  | .local _ .vmem, ⟨9, _⟩ => ⟨S128x16384, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![7], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S25x128x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S25x128x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S128x2 : Shape := ⟨2, ![128, 2]⟩

abbrev nBuf : Space → Nat
  | .hbm => 333
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S_, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x100000, .f32⟩
  | 40 => ⟨S128x100000, .f32⟩
  | 41 => ⟨S128x100000, .f32⟩
  | 42 => ⟨S_, .f32⟩
  | 43 => ⟨S128, .f32⟩
  | 44 => ⟨S128x1, .f32⟩
  | 45 => ⟨S128x100000, .f32⟩
  | 46 => ⟨S128x100000, .f32⟩
  | 47 => ⟨S128x100000, .i32⟩
  | 48 => ⟨S_, .f32⟩
  | 49 => ⟨S_, .i32⟩
  | 50 => ⟨S128, .f32⟩
  | 51 => ⟨S128, .i32⟩
  | 52 => ⟨S128, .i32⟩
  | 53 => ⟨S_, .f32⟩
  | 54 => ⟨S128x100000, .f32⟩
  | 55 => ⟨S_, .i32⟩
  | 56 => ⟨S128, .i32⟩
  | 57 => ⟨S128, .i1⟩
  | 58 => ⟨S_, .i32⟩
  | 59 => ⟨S128, .i32⟩
  | 60 => ⟨S128, .i32⟩
  | 61 => ⟨S128, .i32⟩
  | 62 => ⟨S_, .i32⟩
  | 63 => ⟨S128, .i32⟩
  | 64 => ⟨S128, .i1⟩
  | 65 => ⟨S_, .i32⟩
  | 66 => ⟨S128, .i32⟩
  | 67 => ⟨S128, .i32⟩
  | 68 => ⟨S128, .i32⟩
  | 69 => ⟨S128x1, .i32⟩
  | 70 => ⟨S128x1, .i32⟩
  | 71 => ⟨S128x2, .i32⟩
  | 72 => ⟨S_, .f32⟩
  | 73 => ⟨S128, .f32⟩
  | 74 => ⟨S128x100000, .f32⟩
  | 75 => ⟨S128x100000, .f32⟩
  | 76 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_cst_4 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_v18 : Ref sig .tc := ⟨.hbm, 288, rfl⟩
abbrev main_cst_6 : Ref sig .tc := ⟨.hbm, 289, rfl⟩
abbrev main_v19 : Ref sig .tc := ⟨.hbm, 290, rfl⟩
abbrev main_cst_7 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_cst_8 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_call1_v0 : Ref sig .tc := ⟨.hbm, 303, rfl⟩
abbrev main_call1_cst : Ref sig .tc := ⟨.hbm, 304, rfl⟩
abbrev main_call1_c : Ref sig .tc := ⟨.hbm, 305, rfl⟩
abbrev main_call1_v1_0 : Ref sig .tc := ⟨.hbm, 306, rfl⟩
abbrev main_v30 : Ref sig .tc := ⟨.hbm, 307, rfl⟩
abbrev main_v31 : Ref sig .tc := ⟨.hbm, 308, rfl⟩
abbrev main_cst_9 : Ref sig .tc := ⟨.hbm, 309, rfl⟩
abbrev main_v32 : Ref sig .tc := ⟨.hbm, 310, rfl⟩
abbrev main_c_10 : Ref sig .tc := ⟨.hbm, 311, rfl⟩
abbrev main_v33 : Ref sig .tc := ⟨.hbm, 312, rfl⟩
abbrev main_v34 : Ref sig .tc := ⟨.hbm, 313, rfl⟩
abbrev main_c_11 : Ref sig .tc := ⟨.hbm, 314, rfl⟩
abbrev main_v35 : Ref sig .tc := ⟨.hbm, 315, rfl⟩
abbrev main_v36 : Ref sig .tc := ⟨.hbm, 316, rfl⟩
abbrev main_v37 : Ref sig .tc := ⟨.hbm, 317, rfl⟩
abbrev main_c_12 : Ref sig .tc := ⟨.hbm, 318, rfl⟩
abbrev main_v38 : Ref sig .tc := ⟨.hbm, 319, rfl⟩
abbrev main_v39 : Ref sig .tc := ⟨.hbm, 320, rfl⟩
abbrev main_c_13 : Ref sig .tc := ⟨.hbm, 321, rfl⟩
abbrev main_v40 : Ref sig .tc := ⟨.hbm, 322, rfl⟩
abbrev main_v41 : Ref sig .tc := ⟨.hbm, 323, rfl⟩
abbrev main_v42 : Ref sig .tc := ⟨.hbm, 324, rfl⟩
abbrev main_v43 : Ref sig .tc := ⟨.hbm, 325, rfl⟩
abbrev main_v44 : Ref sig .tc := ⟨.hbm, 326, rfl⟩
abbrev main_v45 : Ref sig .tc := ⟨.hbm, 327, rfl⟩
abbrev main_cst_14 : Ref sig .tc := ⟨.hbm, 328, rfl⟩
abbrev main_v46 : Ref sig .tc := ⟨.hbm, 329, rfl⟩
abbrev main_v47 : Ref sig .tc := ⟨.hbm, 330, rfl⟩
abbrev main_v48 : Ref sig .tc := ⟨.hbm, 331, rfl⟩
abbrev main_v49 : Ref sig .tc := ⟨.hbm, 332, rfl⟩

abbrev nD : Nat := 1
abbrev τ : Topo := Topo.v7x

variable {F : FTy → Type} [FloatOps F]
-- ==== Proof.Draw.lean ====
module

public import Idealize.ShloMosaic.PureOps

/-! # The draw at one flat position

The kernel and the reference draw one Gumbel number per element of the matrix.  The draw depends only on the
element's flat position, a 32-bit word.  Twenty rounds of the counter-based generator turn the position into two
words, the exclusive or of these is 32 random bits, the bits become a number in [0,1), and two logarithms turn that
into the Gumbel number.  Here all of this is written for one position. -/

@[expose] public section

namespace Cert.Draw

open Idealize.ShloMosaic

/-- One round: add the second word to the first, turn the second left by `l` bits (`r = 32 - l`), and add it in
without carries. -/
def mix (l r : BitVec 32) (s : BitVec 32 × BitVec 32) : BitVec 32 × BitVec 32 :=
  (s.1 + s.2, (s.1 + s.2) ^^^ (s.2 <<< l ||| s.2 >>> r))

/-- After every fourth round two key words and the number of the group are added in. -/
def inj (a b n : BitVec 32) (s : BitVec 32 × BitVec 32) : BitVec 32 × BitVec 32 := (s.1 + a, s.2 + b + n)

/-- The two words the generator starts from: the counter is `(0, w)` and the key is `(0, 42)`. -/
def st0 (w : BitVec 32) : BitVec 32 × BitVec 32 := (0#32 + 0#32, w + 42#32)

/-! The two words after each of the twenty rounds. -/
def st1 (w : BitVec 32) : BitVec 32 × BitVec 32 := mix 13#32 19#32 (st0 w)
def st2 (w : BitVec 32) : BitVec 32 × BitVec 32 := mix 15#32 17#32 (st1 w)
def st3 (w : BitVec 32) : BitVec 32 × BitVec 32 := mix 26#32 6#32 (st2 w)
def st4 (w : BitVec 32) : BitVec 32 × BitVec 32 := inj 42#32 466689008#32 1#32 (mix 6#32 26#32 (st3 w))
def st5 (w : BitVec 32) : BitVec 32 × BitVec 32 := mix 17#32 15#32 (st4 w)
def st6 (w : BitVec 32) : BitVec 32 × BitVec 32 := mix 29#32 3#32 (st5 w)
def st7 (w : BitVec 32) : BitVec 32 × BitVec 32 := mix 16#32 16#32 (st6 w)
def st8 (w : BitVec 32) : BitVec 32 × BitVec 32 := inj 466689008#32 0#32 2#32 (mix 24#32 8#32 (st7 w))
def st9 (w : BitVec 32) : BitVec 32 × BitVec 32 := mix 13#32 19#32 (st8 w)
def st10 (w : BitVec 32) : BitVec 32 × BitVec 32 := mix 15#32 17#32 (st9 w)
def st11 (w : BitVec 32) : BitVec 32 × BitVec 32 := mix 26#32 6#32 (st10 w)
def st12 (w : BitVec 32) : BitVec 32 × BitVec 32 := inj 0#32 42#32 3#32 (mix 6#32 26#32 (st11 w))
def st13 (w : BitVec 32) : BitVec 32 × BitVec 32 := mix 17#32 15#32 (st12 w)
def st14 (w : BitVec 32) : BitVec 32 × BitVec 32 := mix 29#32 3#32 (st13 w)
def st15 (w : BitVec 32) : BitVec 32 × BitVec 32 := mix 16#32 16#32 (st14 w)
def st16 (w : BitVec 32) : BitVec 32 × BitVec 32 := inj 42#32 466689008#32 4#32 (mix 24#32 8#32 (st15 w))
def st17 (w : BitVec 32) : BitVec 32 × BitVec 32 := mix 13#32 19#32 (st16 w)
def st18 (w : BitVec 32) : BitVec 32 × BitVec 32 := mix 15#32 17#32 (st17 w)
def st19 (w : BitVec 32) : BitVec 32 × BitVec 32 := mix 26#32 6#32 (st18 w)
def st20 (w : BitVec 32) : BitVec 32 × BitVec 32 := inj 466689008#32 0#32 5#32 (mix 6#32 26#32 (st19 w))

/-- The 32 random bits of a position. -/
def bits (w : BitVec 32) : BitVec 32 := (st20 w).1 ^^^ (st20 w).2

variable {F : FTy → Type} [FloatOps F]

/-- The upper 23 bits as the mantissa of a number in [1,2), less one. -/
def unif (b : BitVec 32) : F .f32 :=
  FloatOps.subf (FloatOps.ofBits .f32 ((b >>> 9#32) ||| 1065353216#32)) (FloatOps.ofBits .f32 0x3F800000#32)

/-- `-log u` of a float, written as the subtraction from zero. -/
def neglog (x : F .f32) : F .f32 := FloatOps.subf (FloatOps.ofBits .f32 0x00000000#32) (FloatOps.log x)

/-- The small positive constant added before each logarithm. -/
def addeps (x : F .f32) : F .f32 := FloatOps.addf x (FloatOps.ofBits .f32 0x1E3CE508#32)

/-- The Gumbel number of a position. -/
def gum (w : BitVec 32) : F .f32 := neglog (addeps (neglog (addeps (unif (bits w)))))

end Cert.Draw

end
-- ==== Proof.KernelIdeal.Stages.lean ====
module

public import proofs.«01_k».proof.Proof.Gen.KernelIdeal.Skeleton
public import proofs.«01_k».proof.Proof.Draw

/-! # What one block of the first pass computes, value by value

The first pass cuts its block of 4096 columns into four chunks of 1024 columns.  For each chunk the body computes the
logits plus Gumbel numbers, with the columns past the matrix's last masked to minus infinity.  The text of the body is
cut at places that fall between the rounds of the generator, at other places in each chunk; each lemma here crosses
one such stretch, at one element. -/

@[expose] public section

set_option maxRecDepth 8192

noncomputable section

namespace Cert.KernelIdeal.Gen

open Idealize.ShloMosaic Idealize.ShloMosaic.TcCoe Cert.Draw

variable {F : FTy → Type} [FloatOps F]

/-- Logits plus noise on the columns of the matrix, minus infinity past them: `x` the chunk's logits, `col` the
columns, `g` the noise. -/
def chunkZ (x : FVec F S128x1024 .f32) (col : IVec S128x1024 32) (g : FVec F S128x1024 .f32) : FVec F S128x1024 .f32 :=
  select (cmpi .slt col (broadcast S128x1024 100000#32)) (addf x g)
    (broadcast S128x1024 (Scalar.ofBits .f32 0xFF800000#32))

/-! ## The first 1024 columns -/

/-- Rounds 1 to 3. -/
theorem stageA1 (i : grid0.Coords) (p : S128x1024.Idx) :
    k0_pay15 i p = (st3 (k0_pay7 i p + 0#32)).2 ∧ k0_pay16 i p = (st3 (k0_pay7 i p + 0#32)).1 + (st3 (k0_pay7 i p + 0#32)).2 ∧ k0_pay17 i p = (st3 (k0_pay7 i p + 0#32)).2 <<< 6#32 := by
  refine ⟨?_, ?_, ?_⟩ <;>
    (simp only [k0_pay15, k0_pay13, k0_pay11, k0_pay9, k0_pay10, k0_pay12, k0_pay14, k0_pay16, k0_pay17, addi, xori, ori, shli, shrui, broadcast, mix, inj, st0, st1, st2, st3]; rfl)

/-- Rounds 4 to 8. -/
theorem stageA2 (a b c : IVec S128x1024 32) (p : S128x1024.Idx) (w : BitVec 32) (h0 : a p = (st3 w).2) (h1 : b p = (st3 w).1 + (st3 w).2) (h2 : c p = (st3 w).2 <<< 6#32) :
    k0_pay26 a b c 26#32 p = (st8 w).2 ∧ k0_pay27 a b c 26#32 p = (st8 w).1 + (st8 w).2 := by
  refine ⟨?_, ?_⟩ <;>
    (simp only [k0_pay26, k0_pay24, k0_pay22, k0_pay20, k0_pay18, k0_pay19, k0_pay21, k0_pay23, k0_pay25, k0_pay27, addi, xori, ori, shli, shrui, broadcast, mix, inj, st4, st5, st6, st7, st8, h0, h1, h2]; rfl)

/-- Rounds 9 to 13. -/
theorem stageA3 (a b : IVec S128x1024 32) (p : S128x1024.Idx) (w : BitVec 32) (h0 : a p = (st8 w).2) (h1 : b p = (st8 w).1 + (st8 w).2) :
    k0_pay37 a b 13#32 p = (st13 w).1 + (st13 w).2 ∧ k0_pay38 a b 13#32 p = ((st13 w).2 <<< 29#32 ||| (st13 w).2 >>> 3#32) := by
  refine ⟨?_, ?_⟩ <;>
    (simp only [k0_pay37, k0_pay35, k0_pay33, k0_pay31, k0_pay29, k0_pay28, k0_pay30, k0_pay32, k0_pay34, k0_pay36, k0_pay38, addi, xori, ori, shli, shrui, broadcast, mix, inj, st9, st10, st11, st12, st13, h0, h1]; rfl)

/-- Rounds 14 to 19. -/
theorem stageA4 (a b : IVec S128x1024 32) (p : S128x1024.Idx) (w : BitVec 32) (h0 : a p = (st13 w).1 + (st13 w).2) (h1 : b p = ((st13 w).2 <<< 29#32 ||| (st13 w).2 >>> 3#32)) :
    k0_pay49 a b p = (st19 w).2 ∧ k0_pay50 a b p = (st19 w).1 + (st19 w).2 ∧ k0_pay51 a b p = (st19 w).2 <<< 6#32 := by
  refine ⟨?_, ?_, ?_⟩ <;>
    (simp only [k0_pay49, k0_pay47, k0_pay45, k0_pay43, k0_pay41, k0_pay39, k0_pay40, k0_pay42, k0_pay44, k0_pay46, k0_pay48, k0_pay50, k0_pay51, addi, xori, ori, shli, shrui, broadcast, mix, inj, st14, st15, st16, st17, st18, st19, h0, h1]; rfl)

/-- Round 20, the bits, the Gumbel number, the sum with the logit, and the mask. -/
theorem stageA5 (x : Vec F S128x1024 .f32) (col : IVec S128x1024 32) (a b c : IVec S128x1024 32) (f : S128x1024.Idx → BitVec 32)
    (h0 : ∀ p, a p = (st19 (f p)).2) (h1 : ∀ p, b p = (st19 (f p)).1 + (st19 (f p)).2) (h2 : ∀ p, c p = (st19 (f p)).2 <<< 6#32) :
    k0_pay52 x col a b c 26#32 = chunkZ x col (fun p => gum (f p)) := by
  funext p
  simp only [k0_pay52, chunkZ, select, cmpi, addf, subf, log, bitcastToFloat, Scalar.ofBits, addi, xori, ori, shli, shrui, broadcast, mix, inj, bits, st20, gum, neglog, addeps, unif, h0 p, h1 p, h2 p]
  rfl

/-! ## The second 1024 columns -/

/-- Rounds 1 to 4. -/
theorem stageB1 (i : grid0.Coords) (p : S128x1024.Idx) :
    k0_pay64 (k0_pay7 i) p = (st4 (k0_pay7 i p + 1024#32)).2 ∧ k0_pay65 (k0_pay7 i) p = (st4 (k0_pay7 i p + 1024#32)).1 + (st4 (k0_pay7 i p + 1024#32)).2 := by
  refine ⟨?_, ?_⟩ <;>
    (simp only [k0_pay64, k0_pay62, k0_pay60, k0_pay58, k0_pay56, k0_pay57, k0_pay59, k0_pay61, k0_pay63, k0_pay65, addi, xori, ori, shli, shrui, broadcast, mix, inj, st0, st1, st2, st3, st4]; rfl)

/-- Rounds 5 to 9. -/
theorem stageB2 (a b : IVec S128x1024 32) (p : S128x1024.Idx) (w : BitVec 32) (h0 : a p = (st4 w).2) (h1 : b p = (st4 w).1 + (st4 w).2) :
    k0_pay75 a b 17#32 p = (st9 w).1 + (st9 w).2 ∧ k0_pay76 a b 17#32 p = ((st9 w).2 <<< 15#32 ||| (st9 w).2 >>> 17#32) := by
  refine ⟨?_, ?_⟩ <;>
    (simp only [k0_pay75, k0_pay73, k0_pay71, k0_pay69, k0_pay67, k0_pay66, k0_pay68, k0_pay70, k0_pay72, k0_pay74, k0_pay76, addi, xori, ori, shli, shrui, broadcast, mix, inj, st5, st6, st7, st8, st9, h0, h1]; rfl)

/-- Rounds 10 to 15. -/
theorem stageB3 (a b : IVec S128x1024 32) (p : S128x1024.Idx) (w : BitVec 32) (h0 : a p = (st9 w).1 + (st9 w).2) (h1 : b p = ((st9 w).2 <<< 15#32 ||| (st9 w).2 >>> 17#32)) :
    k0_pay87 a b p = (st15 w).2 ∧ k0_pay88 a b p = (st15 w).1 + (st15 w).2 ∧ k0_pay89 a b p = (st15 w).2 <<< 24#32 := by
  refine ⟨?_, ?_, ?_⟩ <;>
    (simp only [k0_pay87, k0_pay85, k0_pay83, k0_pay81, k0_pay79, k0_pay77, k0_pay78, k0_pay80, k0_pay82, k0_pay84, k0_pay86, k0_pay88, k0_pay89, addi, xori, ori, shli, shrui, broadcast, mix, inj, st10, st11, st12, st13, st14, st15, h0, h1]; rfl)

/-- Rounds 16 to 20 and the bits. -/
theorem stageB4 (a b c : IVec S128x1024 32) (p : S128x1024.Idx) (w : BitVec 32) (h0 : a p = (st15 w).2) (h1 : b p = (st15 w).1 + (st15 w).2) (h2 : c p = (st15 w).2 <<< 24#32) :
    k0_pay90 a b c 8#32 p = bits w := by
  (simp only [k0_pay90, addi, xori, ori, shli, shrui, broadcast, mix, inj, bits, st16, st17, st18, st19, st20, h0, h1, h2]; rfl)

/-- The Gumbel number, the sum with the logit, and the mask. -/
theorem stageB5 (x : Vec F S128x1024 .f32) (col : IVec S128x1024 32) (a : IVec S128x1024 32) (f : S128x1024.Idx → BitVec 32)
    (h0 : ∀ p, a p = bits (f p)) :
    k0_pay91 x col a 9#32 = chunkZ x col (fun p => gum (f p)) := by
  funext p
  simp only [k0_pay91, chunkZ, select, cmpi, addf, subf, log, bitcastToFloat, Scalar.ofBits, addi, xori, ori, shli, shrui, broadcast, mix, inj, gum, neglog, addeps, unif, h0 p]
  rfl

/-! ## The third 1024 columns -/

/-- Rounds 1 to 5. -/
theorem stageC1 (i : grid0.Coords) (p : S128x1024.Idx) :
    k0_pay110 (k0_pay97 (k0_pay7 i)) k0_pay98 k0_pay99 p = (st5 (k0_pay7 i p + 2048#32)).2 ∧ k0_pay111 (k0_pay97 (k0_pay7 i)) k0_pay98 k0_pay99 p = (st5 (k0_pay7 i p + 2048#32)).1 + (st5 (k0_pay7 i p + 2048#32)).2 ∧ k0_pay112 (k0_pay97 (k0_pay7 i)) k0_pay98 k0_pay99 p = (st5 (k0_pay7 i p + 2048#32)).2 <<< 29#32 := by
  refine ⟨?_, ?_, ?_⟩ <;>
    (simp only [k0_pay110, k0_pay108, k0_pay106, k0_pay104, k0_pay102, k0_pay100, k0_pay101, k0_pay103, k0_pay105, k0_pay107, k0_pay109, k0_pay111, k0_pay112, k0_pay97, k0_pay98, k0_pay99, addi, xori, ori, shli, shrui, broadcast, mix, inj, st0, st1, st2, st3, st4, st5]; rfl)

/-- Rounds 6 to 11. -/
theorem stageC2 (a b c : IVec S128x1024 32) (p : S128x1024.Idx) (w : BitVec 32) (h0 : a p = (st5 w).2) (h1 : b p = (st5 w).1 + (st5 w).2) (h2 : c p = (st5 w).2 <<< 29#32) :
    k0_pay123 a b c 3#32 p = (st11 w).2 ∧ k0_pay124 a b c 3#32 p = (st11 w).1 + (st11 w).2 := by
  refine ⟨?_, ?_⟩ <;>
    (simp only [k0_pay123, k0_pay121, k0_pay119, k0_pay117, k0_pay115, k0_pay113, k0_pay114, k0_pay116, k0_pay118, k0_pay120, k0_pay122, k0_pay124, addi, xori, ori, shli, shrui, broadcast, mix, inj, st6, st7, st8, st9, st10, st11, h0, h1, h2]; rfl)

/-- Rounds 12 to 16, before the last word of the fourth group is added in. -/
theorem stageC3 (a b : IVec S128x1024 32) (p : S128x1024.Idx) (w : BitVec 32) (h0 : a p = (st11 w).2) (h1 : b p = (st11 w).1 + (st11 w).2) :
    k0_pay133 a b 6#32 p = (st16 w).1 ∧ addi (k0_pay134 a b 6#32) k0_pay135 p = (st16 w).2 := by
  refine ⟨?_, ?_⟩ <;>
    (simp only [k0_pay133, k0_pay132, k0_pay130, k0_pay128, k0_pay126, k0_pay125, k0_pay127, k0_pay129, k0_pay131, k0_pay134, k0_pay135, addi, xori, ori, shli, shrui, broadcast, mix, inj, st12, st13, st14, st15, st16, h0, h1]; rfl)

/-- Rounds 17 to 20, the bits, and the number under the first logarithm. -/
theorem stageC4 (a b c : IVec S128x1024 32) (p : S128x1024.Idx) (w : BitVec 32) (h0 : a p = (st16 w).1) (h1 : addi b c p = (st16 w).2) :
    k0_pay136 (F := F) a b c p = addeps (unif (bits w)) := by
  simp only [addi] at h1
  simp only [k0_pay136, addf, subf, bitcastToFloat, Scalar.ofBits, addi, xori, ori, shli, shrui, broadcast, mix, inj, bits, st17, st18, st19, st20, addeps, unif, h0, h1]
  rfl

/-- The Gumbel number, the sum with the logit, and the mask. -/
theorem stageC5 (x : Vec F S128x1024 .f32) (col : IVec S128x1024 32) (a : FVec F S128x1024 .f32) (f : S128x1024.Idx → BitVec 32)
    (h0 : ∀ p, a p = addeps (unif (bits (f p)))) :
    k0_pay137 x col a = chunkZ x col (fun p => gum (f p)) := by
  funext p
  simp only [k0_pay137, chunkZ, select, cmpi, addf, subf, log, broadcast, Scalar.ofBits, gum, neglog, addeps, h0 p]

/-! ## The last 1024 columns -/

/-- The first round. -/
theorem stageD1 (i : grid0.Coords) (p : S128x1024.Idx) :
    k0_pay145 (k0_pay7 i) p = (st1 (k0_pay7 i p + 3072#32)).2 ∧ k0_pay146 (k0_pay7 i) p = (st1 (k0_pay7 i p + 3072#32)).1 + (st1 (k0_pay7 i p + 3072#32)).2 := by
  refine ⟨?_, ?_⟩ <;>
    (simp only [k0_pay145, k0_pay143, k0_pay144, k0_pay146, addi, xori, ori, shli, shrui, broadcast, mix, inj, st0, st1]; rfl)

/-- Rounds 2 to 6. -/
theorem stageD2 (a b : IVec S128x1024 32) (p : S128x1024.Idx) (w : BitVec 32) (h0 : a p = (st1 w).2) (h1 : b p = (st1 w).1 + (st1 w).2) :
    k0_pay156 a b 15#32 p = (st6 w).1 + (st6 w).2 ∧ k0_pay157 a b 15#32 p = ((st6 w).2 <<< 16#32 ||| (st6 w).2 >>> 16#32) := by
  refine ⟨?_, ?_⟩ <;>
    (simp only [k0_pay156, k0_pay154, k0_pay152, k0_pay150, k0_pay148, k0_pay147, k0_pay149, k0_pay151, k0_pay153, k0_pay155, k0_pay157, addi, xori, ori, shli, shrui, broadcast, mix, inj, st2, st3, st4, st5, st6, h0, h1]; rfl)

/-- Rounds 7 to 12, before the key words of the third group are added in. -/
theorem stageD3 (a b : IVec S128x1024 32) (p : S128x1024.Idx) (w : BitVec 32) (h0 : a p = (st6 w).1 + (st6 w).2) (h1 : b p = ((st6 w).2 <<< 16#32 ||| (st6 w).2 >>> 16#32)) :
    k0_pay169 a b p = (st12 w).1 ∧ addi (addi (k0_pay168 a b) k0_pay170) (broadcast S128x1024 3#32) p = (st12 w).2 := by
  refine ⟨?_, ?_⟩ <;>
    (simp only [k0_pay168, k0_pay166, k0_pay164, k0_pay162, k0_pay160, k0_pay158, k0_pay159, k0_pay161, k0_pay163, k0_pay165, k0_pay167, k0_pay169, k0_pay170, addi, xori, ori, shli, shrui, broadcast, mix, inj, st7, st8, st9, st10, st11, st12, h0, h1]; rfl)

/-- Rounds 13 to 17. -/
theorem stageD4 (a b c : IVec S128x1024 32) (p : S128x1024.Idx) (w : BitVec 32) (h0 : b p = (st12 w).1)
    (h1 : addi (addi a c) (broadcast S128x1024 3#32) p = (st12 w).2) :
    k0_pay181 a b c p = (st17 w).2 ∧ k0_pay182 a b c p = (st17 w).1 + (st17 w).2 := by
  simp only [addi, broadcast] at h1
  refine ⟨?_, ?_⟩ <;>
    (simp only [k0_pay181, k0_pay179, k0_pay177, k0_pay175, k0_pay173, k0_pay171, k0_pay172, k0_pay174, k0_pay176, k0_pay178, k0_pay180, k0_pay182, addi, xori, ori, shli, shrui, broadcast, mix, inj, st13, st14, st15, st16, st17, h0, h1]; rfl)

/-- Rounds 18 to 20, the bits, the Gumbel number, the sum with the logit, and the mask. -/
theorem stageD5 (x : Vec F S128x1024 .f32) (col : IVec S128x1024 32) (a b : IVec S128x1024 32) (f : S128x1024.Idx → BitVec 32)
    (h0 : ∀ p, a p = (st17 (f p)).2) (h1 : ∀ p, b p = (st17 (f p)).1 + (st17 (f p)).2) :
    k0_pay1 col (k0_pay183 x a b 15#32) = chunkZ x col (fun p => gum (f p)) := by
  funext p
  simp only [k0_pay1, k0_pay183, chunkZ, select, cmpi, addf, subf, log, bitcastToFloat, Scalar.ofBits, addi, xori, ori, shli, shrui, broadcast, mix, inj, bits, st18, st19, st20, gum, neglog, addeps, unif, h0 p, h1 p]
  rfl

end Cert.KernelIdeal.Gen

end
-- ==== Proof.KernelIdeal.Block.lean ====
module

public import proofs.«01_k».proof.Proof.KernelIdeal.Stages
public import Idealize.ShloMosaic.Lib.Pipeline.FrameBody

/-! # What one block of the first pass computes, as a whole

The noisy logits of a chunk are its logits plus the noise, and -∞ past the matrix's last column.  A chunk gives, per row, its
largest noisy logit and the least column at which that is reached.  The four chunks are then taken from left to right,
and a later one replaces the result so far only where its maximum is strictly larger. -/

@[expose] public section

set_option maxRecDepth 8192

noncomputable section

namespace Cert.KernelIdeal.Gen

open Idealize.ShloMosaic Idealize.ShloMosaic.TcCoe Cert.Draw

variable {F : FTy → Type} [FloatOps F]

/-- The columns of the chunk `off` columns into block `i`. -/
def colAt (i : grid0.Coords) (off : BitVec 32) : IVec S128x1024 32 := fun p => k0_pay6 i p + off
/-- The flat positions of that chunk. -/
def flatAt (i : grid0.Coords) (off : BitVec 32) : IVec S128x1024 32 := fun p => k0_pay7 i p + off
/-- The chunk's noisy logits. -/
def noisy (i : grid0.Coords) (off : BitVec 32) (x : Vec F S128x1024 .f32) : FVec F S128x1024 .f32 :=
  chunkZ x (colAt i off) (fun p => gum (flatAt i off p))

/-- Each row's maximum. -/
def rowMax (z : FVec F S128x1024 .f32) : FVec F S128x1 .f32 :=
  shapeCast S128x1 (multiReduction .maximumf [1] S128 z 0xFF800000#32 reduces_S128x1024_S128 (.inl rfl) rfl)
    shapeCasts_S128_S128x1
/-- The least column of each row at which the maximum is reached. -/
def rowArg (z : FVec F S128x1024 .f32) (col : IVec S128x1024 32) : IVec S128x1 32 :=
  shapeCast S128x1 (multiReductionI .minsi [1] S128
    (select (cmpf .oeq z (broadcastTo S128x1024 (rowMax z) broadcasts_S128x1_S128x1024)) col
      (broadcast S128x1024 2147483647#32)) 2147483647#32 reduces_S128x1024_S128 rfl) shapeCasts_S128_S128x1
/-- One more chunk taken into the running maximum, -/
def stepMax (m : FVec F S128x1 .f32) (z : FVec F S128x1024 .f32) : FVec F S128x1 .f32 :=
  select (cmpf .ogt (rowMax z) m) (rowMax z) m
/-- and into the running column. -/
def stepArg (m : FVec F S128x1 .f32) (a : IVec S128x1 32) (z : FVec F S128x1024 .f32) (col : IVec S128x1024 32) :
    IVec S128x1 32 := select (cmpf .ogt (rowMax z) m) (rowArg z col) a

/-- The maxima after one, two, three and four chunks. -/
def max1 (i : grid0.Coords) (x0 : Vec F S128x1024 .f32) : FVec F S128x1 .f32 := rowMax (noisy i 0#32 x0)
def max2 (i : grid0.Coords) (x0 x1 : Vec F S128x1024 .f32) : FVec F S128x1 .f32 :=
  stepMax (max1 i x0) (noisy i 1024#32 x1)
def max3 (i : grid0.Coords) (x0 x1 x2 : Vec F S128x1024 .f32) : FVec F S128x1 .f32 :=
  stepMax (max2 i x0 x1) (noisy i 2048#32 x2)
def max4 (i : grid0.Coords) (x0 x1 x2 x3 : Vec F S128x1024 .f32) : FVec F S128x1 .f32 :=
  stepMax (max3 i x0 x1 x2) (noisy i 3072#32 x3)
/-- The columns after one, two, three and four chunks. -/
def arg1 (i : grid0.Coords) (x0 : Vec F S128x1024 .f32) : IVec S128x1 32 := rowArg (noisy i 0#32 x0) (colAt i 0#32)
def arg2 (i : grid0.Coords) (x0 x1 : Vec F S128x1024 .f32) : IVec S128x1 32 :=
  stepArg (max1 i x0) (arg1 i x0) (noisy i 1024#32 x1) (colAt i 1024#32)
def arg3 (i : grid0.Coords) (x0 x1 x2 : Vec F S128x1024 .f32) : IVec S128x1 32 :=
  stepArg (max2 i x0 x1) (arg2 i x0 x1) (noisy i 2048#32 x2) (colAt i 2048#32)
def arg4 (i : grid0.Coords) (x0 x1 x2 x3 : Vec F S128x1024 .f32) : IVec S128x1 32 :=
  stepArg (max3 i x0 x1 x2) (arg3 i x0 x1 x2) (noisy i 3072#32 x3) (colAt i 3072#32)

/-! ## The chunks' noisy logits are the body's values -/

/-- The generator's values that the body carries from one stretch of the first chunk to the next. -/
abbrev a2 (i : grid0.Coords) := k0_pay26 (k0_pay15 i) (k0_pay16 i) (k0_pay17 i) 26#32
abbrev a2' (i : grid0.Coords) := k0_pay27 (k0_pay15 i) (k0_pay16 i) (k0_pay17 i) 26#32
abbrev a3 (i : grid0.Coords) := k0_pay37 (a2 i) (a2' i) 13#32
abbrev a3' (i : grid0.Coords) := k0_pay38 (a2 i) (a2' i) 13#32

/-- The first chunk. -/
theorem chunkA (i : grid0.Coords) (x : Vec F S128x1024 .f32) :
    k0_pay52 x (k0_pay8 i) (k0_pay49 (a3 i) (a3' i)) (k0_pay50 (a3 i) (a3' i)) (k0_pay51 (a3 i) (a3' i)) 26#32
      = noisy i 0#32 x := by
  have h (p) := stageA1 i p
  have h2 (p) := stageA2 _ _ _ p _ (h p).1 (h p).2.1 (h p).2.2
  have h3 (p) := stageA3 _ _ p _ (h2 p).1 (h2 p).2
  have h4 (p) := stageA4 _ _ p _ (h3 p).1 (h3 p).2
  exact stageA5 x _ _ _ _ (flatAt i 0#32) (fun p => (h4 p).1) (fun p => (h4 p).2.1) (fun p => (h4 p).2.2)

/-- The values carried in the second chunk. -/
abbrev b2 (v : IVec S128x1024 32) := k0_pay75 (k0_pay64 v) (k0_pay65 v) 17#32
abbrev b2' (v : IVec S128x1024 32) := k0_pay76 (k0_pay64 v) (k0_pay65 v) 17#32
abbrev b4 (v : IVec S128x1024 32) :=
  k0_pay90 (k0_pay87 (b2 v) (b2' v)) (k0_pay88 (b2 v) (b2' v)) (k0_pay89 (b2 v) (b2' v)) 8#32

/-- The second chunk. -/
theorem chunkB (i : grid0.Coords) (x : Vec F S128x1024 .f32) :
    k0_pay91 x (k0_pay55 (k0_pay6 i) 1024#32) (b4 (k0_pay7 i)) 9#32 = noisy i 1024#32 x := by
  have h (p) := stageB1 i p
  have h2 (p) := stageB2 _ _ p _ (h p).1 (h p).2
  have h3 (p) := stageB3 _ _ p _ (h2 p).1 (h2 p).2
  have h4 (p) := stageB4 _ _ _ p _ (h3 p).1 (h3 p).2.1 (h3 p).2.2
  exact stageB5 x _ _ (flatAt i 1024#32) (fun p => h4 p)

/-- The values carried in the third chunk. -/
abbrev c1 (v : IVec S128x1024 32) := k0_pay123 (k0_pay110 (k0_pay97 v) k0_pay98 k0_pay99)
  (k0_pay111 (k0_pay97 v) k0_pay98 k0_pay99) (k0_pay112 (k0_pay97 v) k0_pay98 k0_pay99) 3#32
abbrev c1' (v : IVec S128x1024 32) := k0_pay124 (k0_pay110 (k0_pay97 v) k0_pay98 k0_pay99)
  (k0_pay111 (k0_pay97 v) k0_pay98 k0_pay99) (k0_pay112 (k0_pay97 v) k0_pay98 k0_pay99) 3#32
abbrev c4 (v : IVec S128x1024 32) : FVec F S128x1024 .f32 :=
  k0_pay136 (k0_pay133 (c1 v) (c1' v) 6#32) (k0_pay134 (c1 v) (c1' v) 6#32) k0_pay135

/-- The third chunk. -/
theorem chunkC (i : grid0.Coords) (x : Vec F S128x1024 .f32) :
    k0_pay137 x (k0_pay96 (k0_pay6 i)) (c4 (k0_pay7 i)) = noisy i 2048#32 x := by
  have h (p) := stageC1 i p
  have h2 (p) := stageC2 _ _ _ p _ (h p).1 (h p).2.1 (h p).2.2
  have h3 (p) := stageC3 _ _ p _ (h2 p).1 (h2 p).2
  have h4 (p) := stageC4 (F := F) _ _ _ p _ (h3 p).1 (h3 p).2
  exact stageC5 x _ _ (flatAt i 2048#32) h4

/-- The values carried in the last chunk. -/
abbrev d2 (v : IVec S128x1024 32) := k0_pay156 (k0_pay145 v) (k0_pay146 v) 15#32
abbrev d2' (v : IVec S128x1024 32) := k0_pay157 (k0_pay145 v) (k0_pay146 v) 15#32
abbrev d5 (v : IVec S128x1024 32) (x : Vec F S128x1024 .f32) : FVec F S128x1024 .f32 :=
  k0_pay183 x (k0_pay181 (k0_pay168 (d2 v) (d2' v)) (k0_pay169 (d2 v) (d2' v)) k0_pay170)
    (k0_pay182 (k0_pay168 (d2 v) (d2' v)) (k0_pay169 (d2 v) (d2' v)) k0_pay170) 15#32

/-- The last chunk. -/
theorem chunkD (i : grid0.Coords) (x : Vec F S128x1024 .f32) :
    k0_pay1 (k0_pay142 (k0_pay6 i)) (d5 (k0_pay7 i) x) = noisy i 3072#32 x := by
  have h (p) := stageD1 i p
  have h2 (p) := stageD2 _ _ p _ (h p).1 (h p).2
  have h3 (p) := stageD3 _ _ p _ (h2 p).1 (h2 p).2
  have h4 (p) := stageD4 _ _ _ p _ (h3 p).1 (h3 p).2
  exact stageD5 x _ _ _ (flatAt i 3072#32) (fun p => (h4 p).1) (fun p => (h4 p).2)

/-! ## The running maximum and column are the body's values -/

/-- The first chunk's maximum and column, as the body binds them. -/
abbrev m1 (i : grid0.Coords) (x : Vec F S128x1024 .f32) : FVec F S128x1 .f32 :=
  k0_pay53 x (k0_pay8 i) (k0_pay49 (a3 i) (a3' i)) (k0_pay50 (a3 i) (a3' i)) (k0_pay51 (a3 i) (a3' i)) 26#32
abbrev n1 (i : grid0.Coords) (x : Vec F S128x1024 .f32) : IVec S128x1 32 :=
  k0_pay54 x (k0_pay8 i) (k0_pay49 (a3 i) (a3' i)) (k0_pay50 (a3 i) (a3' i)) (k0_pay51 (a3 i) (a3' i)) 26#32
theorem m1_eq (i : grid0.Coords) (x : Vec F S128x1024 .f32) : m1 i x = max1 i x := congrArg rowMax (chunkA i x)
theorem n1_eq (i : grid0.Coords) (x : Vec F S128x1024 .f32) : n1 i x = arg1 i x :=
  congrArg (rowArg · (colAt i 0#32)) (chunkA i x)

/-- The second chunk taken in. -/
abbrev m2 (i : grid0.Coords) (x y : Vec F S128x1024 .f32) : FVec F S128x1 .f32 :=
  k0_pay94 (m1 i x) y (k0_pay55 (k0_pay6 i) 1024#32) (b4 (k0_pay7 i)) 9#32
abbrev n2 (i : grid0.Coords) (x y : Vec F S128x1024 .f32) : IVec S128x1 32 :=
  k0_pay95 (m1 i x) (n1 i x) y (k0_pay55 (k0_pay6 i) 1024#32) (b4 (k0_pay7 i)) 9#32
theorem m2_eq (i : grid0.Coords) (x y : Vec F S128x1024 .f32) : m2 i x y = max2 i x y := by
  have e : m2 i x y = stepMax (m1 i x) (k0_pay91 y (k0_pay55 (k0_pay6 i) 1024#32) (b4 (k0_pay7 i)) 9#32) := rfl
  rw [e, m1_eq, chunkB]; rfl
theorem n2_eq (i : grid0.Coords) (x y : Vec F S128x1024 .f32) : n2 i x y = arg2 i x y := by
  have e : n2 i x y = stepArg (m1 i x) (n1 i x) (k0_pay91 y (k0_pay55 (k0_pay6 i) 1024#32) (b4 (k0_pay7 i)) 9#32)
    (colAt i 1024#32) := rfl
  rw [e, m1_eq, n1_eq, chunkB]; rfl

/-- The third chunk taken in. -/
abbrev m3 (i : grid0.Coords) (x y z : Vec F S128x1024 .f32) : FVec F S128x1 .f32 :=
  k0_pay140 (m2 i x y) z (k0_pay96 (k0_pay6 i)) (c4 (k0_pay7 i))
abbrev n3 (i : grid0.Coords) (x y z : Vec F S128x1024 .f32) : IVec S128x1 32 :=
  k0_pay141 (m2 i x y) (n2 i x y) z (k0_pay96 (k0_pay6 i)) (c4 (k0_pay7 i))
theorem m3_eq (i : grid0.Coords) (x y z : Vec F S128x1024 .f32) : m3 i x y z = max3 i x y z := by
  have e : m3 i x y z = stepMax (m2 i x y) (k0_pay137 z (k0_pay96 (k0_pay6 i)) (c4 (k0_pay7 i))) := rfl
  rw [e, m2_eq, chunkC]; rfl
theorem n3_eq (i : grid0.Coords) (x y z : Vec F S128x1024 .f32) : n3 i x y z = arg3 i x y z := by
  have e : n3 i x y z = stepArg (m2 i x y) (n2 i x y) (k0_pay137 z (k0_pay96 (k0_pay6 i)) (c4 (k0_pay7 i)))
    (colAt i 2048#32) := rfl
  rw [e, m2_eq, n2_eq, chunkC]; rfl

/-- The last chunk taken in, in the shape of the block the body stores. -/
abbrev m4 (i : grid0.Coords) (x y z t : Vec F S128x1024 .f32) : FVec F S1x128x1 .f32 :=
  k0_pay4 (m3 i x y z) (k0_pay142 (k0_pay6 i)) (d5 (k0_pay7 i) t)
abbrev n4 (i : grid0.Coords) (x y z t : Vec F S128x1024 .f32) : IVec S1x128x1 32 :=
  k0_pay5 (m3 i x y z) (n3 i x y z) (k0_pay142 (k0_pay6 i)) (d5 (k0_pay7 i) t)
theorem m4_eq (i : grid0.Coords) (x y z t : Vec F S128x1024 .f32) :
    m4 i x y z t = shapeCast S1x128x1 (max4 i x y z t) shapeCasts_S128x1_S1x128x1 := by
  have e : m4 i x y z t = shapeCast S1x128x1 (stepMax (m3 i x y z) (k0_pay1 (k0_pay142 (k0_pay6 i)) (d5 (k0_pay7 i) t)))
    shapeCasts_S128x1_S1x128x1 := rfl
  rw [e, m3_eq, chunkD]; rfl
theorem n4_eq (i : grid0.Coords) (x y z t : Vec F S128x1024 .f32) :
    n4 i x y z t = shapeCast S1x128x1 (arg4 i x y z t) shapeCasts_S128x1_S1x128x1 := by
  have e : n4 i x y z t = shapeCast S1x128x1 (stepArg (m3 i x y z) (n3 i x y z)
    (k0_pay1 (k0_pay142 (k0_pay6 i)) (d5 (k0_pay7 i) t)) (colAt i 3072#32)) shapeCasts_S128x1_S1x128x1 := rfl
  rw [e, m3_eq, n3_eq, chunkD]; rfl

end Cert.KernelIdeal.Gen

end
-- ==== Proof.KernelIdeal.Columns.lean ====
module

public import proofs.«01_k».proof.Proof.KernelIdeal.Block

/-! # The columns and flat positions of a chunk as numbers

A column is less than 25 · 4096 and a flat position is the row times 100000 plus the column.  Neither leaves 32 bits
as far as the comparison with 100000 is concerned, so the mask is the plain comparison of numbers. -/

@[expose] public section

noncomputable section

namespace Cert.KernelIdeal.Gen

open Idealize.ShloMosaic Idealize.ShloMosaic.TcCoe Cert.Draw

variable {F : FTy → Type} [FloatOps F]

/-- The column of element `p` of the chunk `k` columns into block `i`. -/
def colN (i : grid0.Coords) (k : ℕ) (p : S128x1024.Idx) : ℕ := (i 0).val * 4096 + k + (p 1).val

theorem pay6_eq (i : grid0.Coords) (p : S128x1024.Idx) : k0_pay6 i p = BitVec.ofNat 32 ((i 0).val * 4096 + (p 1).val) := by
  simp only [k0_pay6, addi, iota, broadcast, Scalar.muli, List.foldl, Nat.zero_mul, Nat.zero_add]
  show BitVec.ofNat 32 (p 1).val + BitVec.ofNat 32 (i 0).val * BitVec.ofNat 32 4096 = _
  rw [← BitVec.ofNat_mul, ← BitVec.ofNat_add]; refine congrArg (BitVec.ofNat 32) ?_; omega

theorem colAt_eq (i : grid0.Coords) (k : ℕ) (p : S128x1024.Idx) :
    colAt i (BitVec.ofNat 32 k) p = BitVec.ofNat 32 (colN i k p) := by
  unfold colAt colN; rw [pay6_eq, ← BitVec.ofNat_add]; refine congrArg (BitVec.ofNat 32) ?_; omega

theorem flatAt_eq (i : grid0.Coords) (k : ℕ) (p : S128x1024.Idx) :
    flatAt i (BitVec.ofNat 32 k) p = BitVec.ofNat 32 ((p 0).val * 100000 + colN i k p) := by
  unfold flatAt
  simp only [k0_pay7, addi, muli, iota, broadcast, List.foldl, Nat.zero_mul, Nat.zero_add, pay6_eq]
  show BitVec.ofNat 32 (p 0).val * BitVec.ofNat 32 100000 + BitVec.ofNat 32 ((i 0).val * 4096 + (p 1).val) + _ = _
  rw [← BitVec.ofNat_mul, ← BitVec.ofNat_add, ← BitVec.ofNat_add]; unfold colN; refine congrArg (BitVec.ofNat 32) ?_; omega

/-- A signed comparison of two small words is the comparison of the numbers. -/
theorem slt_small {a b : ℕ} (ha : a < 2147483648) (hb : b < 2147483648) :
    IntOp.cmpi .slt (BitVec.ofNat 32 a) (BitVec.ofNat 32 b) = 1#1 ↔ a < b := by
  have e : IntOp.cmpi .slt (BitVec.ofNat 32 a) (BitVec.ofNat 32 b)
      = BitVec.ofBool ((BitVec.ofNat 32 a).slt (BitVec.ofNat 32 b)) := rfl
  have ia : (BitVec.ofNat 32 a).toInt = a := by
    rw [BitVec.toInt_eq_toNat_of_lt] <;> simp only [BitVec.toNat_ofNat] <;> omega
  have ib : (BitVec.ofNat 32 b).toInt = b := by
    rw [BitVec.toInt_eq_toNat_of_lt] <;> simp only [BitVec.toNat_ofNat] <;> omega
  rw [e, BitVec.slt, ia, ib]
  by_cases h : a < b
  · simp [h]
  · simp [h]

theorem colN_lt (i : grid0.Coords) {k : ℕ} (hk : k ≤ 3072) (p : S128x1024.Idx) : colN i k p < 102400 := by
  have h0 : (i 0).val < 25 := (i 0).isLt
  have h1 : (p 1).val < 1024 := (p 1).isLt
  unfold colN; omega

/-- A chunk's noisy logits, element by element. -/
theorem noisy_apply (i : grid0.Coords) {k : ℕ} (hk : k ≤ 3072) (x : Vec F S128x1024 .f32) (p : S128x1024.Idx) :
    noisy i (BitVec.ofNat 32 k) x p
      = if colN i k p < 100000 then FloatOps.addf (x p) (gum (BitVec.ofNat 32 ((p 0).val * 100000 + colN i k p)))
        else FloatOps.ofBits .f32 0xFF800000#32 := by
  have e : noisy i (BitVec.ofNat 32 k) x p
      = if IntOp.cmpi .slt (colAt i (BitVec.ofNat 32 k) p) (BitVec.ofNat 32 100000) = 1#1
        then FloatOps.addf (x p) (gum (flatAt i (BitVec.ofNat 32 k) p)) else FloatOps.ofBits .f32 0xFF800000#32 := rfl
  have hc := colN_lt i hk p
  rw [e, colAt_eq, flatAt_eq]
  simp only [slt_small (show colN i k p < 2147483648 by omega) (show 100000 < 2147483648 by omega)]

/-- Logits past the matrix's last column are not read. -/
theorem noisy_congr (i : grid0.Coords) {k : ℕ} (hk : k ≤ 3072) (x y : Vec F S128x1024 .f32)
    (h : ∀ p, colN i k p < 100000 → x p = y p) : noisy i (BitVec.ofNat 32 k) x = noisy i (BitVec.ofNat 32 k) y := by
  funext p
  rw [noisy_apply i hk, noisy_apply i hk]
  split
  · next hp => rw [h p hp]
  · rfl

/-- The two results of a block depend on its chunks only through their noisy logits. -/
theorem max4_congr (i : grid0.Coords) (x y z t x' y' z' t' : Vec F S128x1024 .f32)
    (h0 : noisy i 0#32 x = noisy i 0#32 x') (h1 : noisy i 1024#32 y = noisy i 1024#32 y')
    (h2 : noisy i 2048#32 z = noisy i 2048#32 z') (h3 : noisy i 3072#32 t = noisy i 3072#32 t') :
    max4 i x y z t = max4 i x' y' z' t' ∧ arg4 i x y z t = arg4 i x' y' z' t' := by
  unfold arg4 arg3 arg2 arg1 max4 max3 max2 max1
  rw [h0, h1, h2, h3]
  exact ⟨rfl, rfl⟩

end Cert.KernelIdeal.Gen

end
-- ==== Proof.KernelIdeal.First.lean ====
module

public import proofs.«01_k».proof.Proof.KernelIdeal.Columns
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The first pass as a pipeline

The body runs at 25 points.  At point `t` it reads block `t` of the logits and stores one maximum and one column per
row.  The last block reaches past the matrix, so its buffer holds something unknown there; the mask keeps the body from
using it, which is why the two results do not depend on it. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body reads and stores -/

/-- The four chunks of the block of logits, and the whole of a block of results. -/
abbrev r0_0 : Rect S128x4096 := Rect.unit (s := S128x4096) ![0, 0] S128x1024.size inb_S128x4096_S128x1024_0_0
abbrev r0_1 : Rect S128x4096 := Rect.unit (s := S128x4096) ![0, 1024] S128x1024.size inb_S128x4096_S128x1024_0_1024
abbrev r0_2 : Rect S128x4096 := Rect.unit (s := S128x4096) ![0, 2048] S128x1024.size inb_S128x4096_S128x1024_0_2048
abbrev r0_3 : Rect S128x4096 := Rect.unit (s := S128x4096) ![0, 3072] S128x1024.size inb_S128x4096_S128x1024_0_3072
abbrev r0_4 : Rect S1x128x1 := Rect.unit (s := S1x128x1) ![0, 0, 0] S1x128x1.size inb_S1x128x1_S1x128x1_0_0_0

/-- The block of maxima that point `i` stores, from its block of logits, -/
def topOf (i : grid0.Coords) (x : Vec F S128x4096 .f32) : Vec F S1x128x1 .f32 :=
  View.canon [⟨r0_4, shapeCast S1x128x1 (max4 i (View.ld x r0_0) (View.ld x r0_1) (View.ld x r0_2) (View.ld x r0_3))
    shapeCasts_S128x1_S1x128x1⟩]
/-- and the block of columns. -/
def whereOf (i : grid0.Coords) (x : Vec F S128x4096 .f32) : Vec F S1x128x1 .i32 :=
  View.canon [⟨r0_4, shapeCast S1x128x1 (arg4 i (View.ld x r0_0) (View.ld x r0_1) (View.ld x r0_2) (View.ld x r0_3))
    shapeCasts_S128x1_S1x128x1⟩]

/-- The one store writes the whole buffer. -/
theorem cover_one {e : EltTy} (v : Vec F S1x128x1 e) (y : S1x128x1.Idx) :
    ∃ pc ∈ ([⟨r0_4, v⟩] : List (View.Piece (Elt F) S1x128x1 e)), y ∈ pc.1.set :=
  View.cover_of_tiled [⟨r0_4, v⟩] S1x128x1.size (by rfl) y

/-! ## What lies past the matrix is not used -/

/-- An element of a chunk whose column is one of the matrix's lies in the part of the block that is fetched. -/
theorem moved_of_col (i : grid0.Coords) (y : S128x4096.Idx) (h : (i 0).val * 4096 + (y 1).val < 100000) :
    win0_0.moved i y = true := by
  have hi : (i 0).val < 25 := (i 0).isLt
  have h1 : (y 1).val < 4096 := (y 1).isLt
  refine (win0_0.moved_iff i y).mpr fun a => ?_
  match a with
  | ⟨0, _⟩ =>
    have e : win0_0.xsize i ⟨0, by decide⟩ = 128 := rfl
    exact Nat.lt_of_lt_of_eq (y 0).isLt e.symm
  | ⟨1, _⟩ =>
    have e : win0_0.xsize i ⟨1, by decide⟩
        = (Pipeline.Clip.of (BitVec.ofNat 32 (i 0).val).toNat 4096 100000).extent 4096 := rfl
    refine Nat.lt_of_lt_of_eq ?_ e.symm
    rw [BitVec.toNat_ofNat, Nat.mod_eq_of_lt (by omega)]
    unfold Pipeline.Clip.of
    split
    · exact h1
    · show (y 1).val < 100000 - (i 0).val * 4096
      omega

/-- Two fillings of one fetched block agree on the matrix's columns. -/
theorem fill_agree (i : grid0.Coords) (d d' : S128x4096.Idx → Elt F .f32) (g : (win0_0.xblock i).Idx → Elt F .f32)
    (y : S128x4096.Idx) (h : (i 0).val * 4096 + (y 1).val < 100000) : win0_0.fill i d g y = win0_0.fill i d' g y := by
  unfold Window.fill
  rw [dif_pos (moved_of_col i y h), dif_pos (moved_of_col i y h)]

theorem noisy_fill (i : grid0.Coords) (d d' : S128x4096.Idx → Elt F .f32) (g : (win0_0.xblock i).Idx → Elt F .f32) :
    noisy i 0#32 (View.ld (win0_0.fill i d g) r0_0) = noisy i 0#32 (View.ld (win0_0.fill i d' g) r0_0)
    ∧ noisy i 1024#32 (View.ld (win0_0.fill i d g) r0_1) = noisy i 1024#32 (View.ld (win0_0.fill i d' g) r0_1)
    ∧ noisy i 2048#32 (View.ld (win0_0.fill i d g) r0_2) = noisy i 2048#32 (View.ld (win0_0.fill i d' g) r0_2)
    ∧ noisy i 3072#32 (View.ld (win0_0.fill i d g) r0_3) = noisy i 3072#32 (View.ld (win0_0.fill i d' g) r0_3) := by
  refine ⟨noisy_congr i (by omega) _ _ fun p h => ?_, noisy_congr i (by omega) _ _ fun p h => ?_,
    noisy_congr i (by omega) _ _ fun p h => ?_, noisy_congr i (by omega) _ _ fun p h => ?_⟩
  · refine fill_agree i d d' g (r0_0.idx p) ?_
    have e : (r0_0.idx p 1).val = 0 + 1 * (p 1).val := rfl
    unfold colN at h; omega
  · refine fill_agree i d d' g (r0_1.idx p) ?_
    have e : (r0_1.idx p 1).val = 1024 + 1 * (p 1).val := rfl
    unfold colN at h; omega
  · refine fill_agree i d d' g (r0_2.idx p) ?_
    have e : (r0_2.idx p 1).val = 2048 + 1 * (p 1).val := rfl
    unfold colN at h; omega
  · refine fill_agree i d d' g (r0_3.idx p) ?_
    have e : (r0_3.idx p 1).val = 3072 + 1 * (p 1).val := rfl
    unfold colN at h; omega

theorem topOf_fill (i : grid0.Coords) (d d' : S128x4096.Idx → Elt F .f32) (g : (win0_0.xblock i).Idx → Elt F .f32) :
    topOf i (win0_0.fill i d g) = topOf i (win0_0.fill i d' g) := by
  obtain ⟨e0, e1, e2, e3⟩ := noisy_fill i d d' g
  exact congrArg (fun v => View.canon [⟨r0_4, shapeCast S1x128x1 v shapeCasts_S128x1_S1x128x1⟩])
    (max4_congr i _ _ _ _ _ _ _ _ e0 e1 e2 e3).1

theorem whereOf_fill (i : grid0.Coords) (d d' : S128x4096.Idx → Elt F .f32) (g : (win0_0.xblock i).Idx → Elt F .f32) :
    whereOf i (win0_0.fill i d g) = whereOf i (win0_0.fill i d' g) := by
  obtain ⟨e0, e1, e2, e3⟩ := noisy_fill i d d' g
  exact congrArg (fun v => View.canon [⟨r0_4, shapeCast S1x128x1 v shapeCasts_S128x1_S1x128x1⟩])
    (max4_congr i _ _ _ _ _ _ _ _ e0 e1 e2 e3).2

/-! ## The body's run -/

set_option maxHeartbeats 1000000 in
/-- Run on whole buffers, the body leaves the logits' as it was and the other two at `topOf` and `whereOf` of it. -/
theorem run_first (c : Dev nD) (E : Set ℕ) (i : grid0.Coords) (arg1 : Memref sig .tc .vmem S128x4096 .f32) (harg1 : arg1.IsWhole) (arg2 : Memref sig .tc .vmem S1x128x1 .f32) (harg2 : arg2.IsWhole) (arg3 : Memref sig .tc .vmem S1x128x1 .i32) (harg3 : arg3.IsWhole)
    (x : Vec F S128x4096 .f32) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (topOf i x) ∗ owns (c : Thread nD τ) arg3 fullShare (whereOf i x)) -∗ K ⟨⟩))
      ⊢ wp frame (wpE (defs₀ (F := F)) Variants.none c none) E (cc0__partial_argmax_kernel i arg1 harg1 arg2 harg2 arg3 harg3) K := by
  simp only [cc0__partial_argmax_kernel_eq_skeleton]; unfold cc0__partial_argmax_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover_one _)).trans ?_
    exact congrArg (fun v => View.canon [⟨r0_4, v⟩]) (m4_eq i _ _ _ _)
  iexists _; isplitr
  swap; · iexact H2
  ipureintro
  refine (View.read_writes_eq_canon _ _ _ (cover_one _)).trans ?_
  exact congrArg (fun v => View.canon [⟨r0_4, v⟩]) (n4_eq i _ _ _ _)

/-! ## The pipeline's data -/

/-- Window `w`'s block at point `t`, as it lies in the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of logits at point `t`, with zeros past the matrix. -/
def logits (c : Dev nD) (t : Fin cfg0.N) : Vec F S128x4096 .f32 :=
  win0_0.fill (grid0.coords t) (fun _ => Scalar.ofBits .f32 0#32) (blk0 V c 0 t)

/-- After the body at point `t`, the logits' buffer holds the block and the others its maxima and columns. -/
def dat0 (c : Dev nD) : Dat τ (Elt F) Unit ℕ (UR sig nD τ) ℕ cfg0 c where
  A w := V c (Pipeline.arrRef spec0 w)
  after w t := match w with
    | ⟨0, _⟩ => logits V c t
    | ⟨1, _⟩ => topOf (grid0.coords t) (logits V c t)
    | ⟨2, _⟩ => whereOf (grid0.coords t) (logits V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = logits V c t := by dsimp only [dat0]
theorem after0_1 (c : Dev nD) (t : Fin cfg0.N) : (dat0 V c).after 1 t = topOf (grid0.coords t) (logits V c t) := by dsimp only [dat0]
theorem after0_2 (c : Dev nD) (t : Fin cfg0.N) : (dat0 V c).after 2 t = whereOf (grid0.coords t) (logits V c t) := by dsimp only [dat0]

/-- The logits are fetched at every point: the buffer holds the block, and what it held before past the matrix. -/
theorem before0_0 (c : Dev nD) (t : Fin cfg0.N) (d) :
    (dat0 V c).before 0 t d = win0_0.fill (grid0.coords t) d (blk0 V c 0 t) := by
  unfold Dat.before; rw [if_pos (fetch0_0 t)]; rfl

/-- The body table's row is the body. -/
theorem defs₀_row0 (t : Fin cfg0.N) :
    defs₀ (F := F) .tc cfg0.body (cfg0.bodyArgs t (cfg0.slots t)) = bodyAt0 t := by
  unfold defs₀; rw [Defs.onTc_tc]

/-- The body's obligation at every point, the logits' buffer stated where it is fetched. -/
theorem body_obligation0 (c : Dev nD) : BodyObligationLoose (dat0 (F := F) V c) (defs₀ (F := F)) Variants.none () Set.univ := fun t => by
  rw [bigSep_W0, bigSep_W0, defs₀_row0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0]
  unfold bodyAt0
  iapply (run_first c Set.univ (grid0.coords t) _ _ _ _ _ _ (win0_0.fill (grid0.coords t) d0 (blk0 V c 0 t)) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (logits V c t)))
    rw [show win0_0.cut (grid0.coords t) (logits V c t) = blk0 V c 0 t from win0_0.cut_fill _ _ _]
    try iexact H0
  isplitl [H1]
  · change _ ⊢ owns (c : Thread nD τ) (st0_1 t) fullShare (topOf (grid0.coords t) (logits V c t))
    rw [show topOf (grid0.coords t) (logits V c t) = topOf (grid0.coords t) (win0_0.fill (grid0.coords t) d0 (blk0 V c 0 t)) from
      topOf_fill (grid0.coords t) _ d0 _]
    try iexact H1
  · change _ ⊢ owns (c : Thread nD τ) (st0_2 t) fullShare (whereOf (grid0.coords t) (logits V c t))
    rw [show whereOf (grid0.coords t) (logits V c t) = whereOf (grid0.coords t) (win0_0.fill (grid0.coords t) d0 (blk0 V c 0 t)) from
      whereOf_fill (grid0.coords t) _ d0 _]
    try iexact H2

end Cert.KernelIdeal.Gen

end
-- ==== Proof.KernelIdeal.Second.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The second pass as a pipeline

The body runs at 7 points.  Each time it reads all the maxima and columns of the first pass and stores one block of
the result.  The last block reaches past the result array; only its part inside is written back. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- All the maxima (or columns), and the whole of a block of the result. -/
abbrev r1_0 : Rect S25x128x1 := Rect.unit (s := S25x128x1) ![0, 0, 0] S25x128x1.size inb_S25x128x1_S25x128x1_0_0_0
abbrev r1_1 : Rect S128x16384 := Rect.unit (s := S128x16384) ![0, 0] S128x16384.size inb_S128x16384_S128x16384_0_0

/-- The block of the result that point `i` stores, from the maxima and the columns. -/
def hotOf (i : grid1.Coords) (x : Vec F S25x128x1 .f32) (a : Vec F S25x128x1 .i32) : Vec F S128x16384 .f32 :=
  View.canon [⟨r1_1, k1_pay1 i (View.ld x r1_0) (View.ld a r1_0)⟩]

/-- The one store writes the whole buffer. -/
theorem cover_hot (v : Vec F S128x16384 .f32) (y : S128x16384.Idx) :
    ∃ pc ∈ ([⟨r1_1, v⟩] : List (View.Piece (Elt F) S128x16384 .f32)), y ∈ pc.1.set :=
  View.cover_of_tiled [⟨r1_1, v⟩] S128x16384.size (by rfl) y

set_option maxHeartbeats 1000000 in
/-- Run on whole buffers, the body leaves the maxima and the columns as they were and the third buffer at `hotOf` of
them. -/
theorem run_second (c : Dev nD) (E : Set ℕ) (i : grid1.Coords) (arg1 : Memref sig .tc .vmem S25x128x1 .f32) (harg1 : arg1.IsWhole) (arg2 : Memref sig .tc .vmem S25x128x1 .i32) (harg2 : arg2.IsWhole) (arg3 : Memref sig .tc .vmem S128x16384 .f32) (harg3 : arg3.IsWhole)
    (x : Vec F S25x128x1 .f32) (a : Vec F S25x128x1 .i32) (K : PUnit → sProp 𝕄) :
    iprop(owns (c : Thread nD τ) arg1 fullShare x ∗ owns (c : Thread nD τ) arg2 fullShare a ∗ (∃ d, owns (c : Thread nD τ) arg3 fullShare d)
        ∗ (iprop(owns (c : Thread nD τ) arg1 fullShare x ∗ owns (c : Thread nD τ) arg2 fullShare a ∗ owns (c : Thread nD τ) arg3 fullShare (hotOf i x a)) -∗ K ⟨⟩))
      ⊢ wp frame (wpE (defs₀ (F := F)) Variants.none c none) E (cc1__onehot_kernel i arg1 harg1 arg2 harg2 arg3 harg3) K := by
  simp only [cc1__onehot_kernel_eq_skeleton]; unfold cc1__onehot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_hot _)

/-! ## The pipeline's data -/

/-- Window `w`'s block at point `t`, as it lies in the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t`, the two inputs' buffers are as they were and the third holds the block of the result. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => hotOf (grid1.coords t) (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) :
    (dat1 V c).after 2 t = hotOf (grid1.coords t) (blk1 V c 0 t) (blk1 V c 1 t) := by dsimp only [dat1]

/-- The inputs are fetched once and stay: the buffers hold the whole arrays at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run_second c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row is the body. -/
theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound1 V c t) rfl .rfl fun _ => .rfl

end Cert.KernelIdeal.Gen

end
-- ==== Proof.KernelIdeal.Run.lean ====
module

public import proofs.«01_k».proof.Proof.KernelIdeal.First
public import proofs.«01_k».proof.Proof.KernelIdeal.Second
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! # The whole run

The program is the two passes in order.  From any memory it runs to its end without fault; the argument is unchanged,
every counter is zero, and the result array holds what the second pass's pipeline leaves in it. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's one argument. -/
abbrev argRefs : List (Ref sig .tc) := [main_arg0]

/-! ## What the buffers hold before, between and after the two passes -/

/-- Before the first pass: what the memory held at the start. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same, buffer by buffer. -/
abbrev V0 : (c : Dev nD) → (b : Ref sig .tc) → Buf (Elt F) ((c : Thread nD τ).loc b) := fun c b => W0 m ρ c b
/-- Between the passes: the first pass's arrays hold what it leaves in them, every other buffer what it held before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The first pass changes only the two arrays it writes. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- It only reads the argument. -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- What the buffers hold between the passes, buffer by buffer. -/
abbrev V1 : (c : Dev nD) → (b : Ref sig .tc) → Buf (Elt F) ((c : Thread nD τ).loc b) := fun c b => W1 m ρ c b
/-- There the first pass's arrays are as it left them, and the other buffers (`hrest0`) as it found them. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second pass: its arrays hold what it leaves in them, every other buffer what it held before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The second pass changes only the result array. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- It does not write the argument. -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- What the buffers hold at the end, buffer by buffer. -/
abbrev V2 : (c : Dev nD) → (b : Ref sig .tc) → Buf (Elt F) ((c : Thread nD τ).loc b) := fun c b => W2 m ρ c b
/-- There the second pass's arrays are as it left them, and the other buffers (`hrest1`) as it found them. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- The argument is the same at the end as at the start. -/
theorem W2_main_arg0 (c : Dev nD) : W2 m ρ c (Proc.devRef .tc main_arg0) = m ((c : Thread nD τ).loc main_arg0) :=
  W2_args m ρ c main_arg0 (by decide)

/-! ## The two passes as steps of one program -/

/-- Neither pass has a table of its own. -/
abbrev adm : (p : Fin 2) → (pcfgs (F := F) p).Adm := fun p => (cfgs p).toPCfg_adm
/-- What is stated of each pass, from what the buffers hold when it begins. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- Nothing is signalled between cores. -/
abbrev L : GSem nD τ sig → Finset Unit := fun _ => ∅
abbrev lv : GSem nD τ sig → Unit → ℕ := fun _ _ => 0
/-- What is kept besides the buffers: the generator register in some state, and nothing owed. -/
abbrev R (c : Dev nD) : sProp 𝕄 := iprop((∃ r, prngReg c r) ∗ ∃ W, owes (c : Thread nD τ) (0 : CellTallies nD τ sig Unit) W)
/-- The buffers kept are those that outlive the passes. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is kept at the end: the buffers with their last contents, and the generator register in some state. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The first pass takes the buffers from `W0` to `W1`: its arrays are taken from the buffers, and given back with what
it leaves in them. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m ρ) c
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass takes them from `W1` to `W2` in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The two passes in order, -/
abbrev segs : List (Pipeline.Seg (pcfgs (F := F)) adm (pdats m ρ) () defs₀ 𝒱₀ L lv) :=
  [ .region (reg0 m ρ),
    .region (reg1 m ρ) ]
/-- which are the whole program. -/
theorem main_run (c : Dev nD) : main (F := F) c = Pipeline.Seg.run (segs m ρ) := (main_chain c).trans (by chain_rfl)

/-- Every semaphore belongs to a pass. -/
theorem no_unscoped : ∀ sm : SemLoc sig, sm.isScoped .tc = true := by decide

set_option backward.isDefEq.respectTransparency.types false in
/-- The run: it ends, the argument is unchanged, the result is what the second pass leaves, every counter is zero. -/
theorem whole_run : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_v0) = (dat1 (V1 m ρ) c).arrAt 2 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_arg0 (by decide))).trans (W2_main_arg0 m ρ c),
        (h c _ (mem_uc main_v0 (by decide))).trans (W2_arr m ρ c 2)⟩), funext fun g => hz g (.inr (no_unscoped g.2))⟩)

/-- The frame: it ends, the argument is unchanged, every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).1, h.2⟩) (whole_run m ρ)

end Cert.KernelIdeal.Gen

end
-- ==== Proof.Value.Top.lean ====
module

public import proofs.«01_k».proof.Proof.Draw
public import Idealize.ShloMosaic.PureOps.Ideal
public import Idealize.ShloMosaic.Lib.IdealHost

/-! # The common value

Both programs compute, per row, the one-hot vector of the least column at which the noisy logit is largest.  This is
written here once, of the matrix of logits. -/

@[expose] public section

noncomputable section

namespace Cert.Value

open Idealize.ShloMosaic Idealize.ShloMosaic.ValueIdx Cert.Draw

/-- The shape of the logits and of the result. -/
abbrev Sx : Shape := ⟨2, ![128, 100000]⟩

/-- `c` is the least place at which `z` is largest. -/
def IsTop {n : ℕ} (z : Fin n → EReal) (c : Fin n) : Prop := (∀ d, z d ≤ z c) ∧ ∀ d, d < c → z d < z c

/-- There is one such place at most. -/
theorem IsTop.eq {n : ℕ} {z : Fin n → EReal} {c d : Fin n} (hc : IsTop z c) (hd : IsTop z d) : c = d := by
  rcases lt_trichotomy c d with h | h | h
  · exact absurd (hc.1 d) (not_le.mpr (hd.2 c h))
  · exact h
  · exact absurd (hd.1 c) (not_le.mpr (hc.2 d h))

/-- Only the order of the values matters. -/
theorem isTop_congr {n : ℕ} {y z : Fin n → EReal} (h : ∀ c d, y c < y d ↔ z c < z d) (c : Fin n) :
    IsTop y c ↔ IsTop z c := by
  have h' (d e : Fin n) : y d ≤ y e ↔ z d ≤ z e := by
    rw [← not_lt, ← not_lt]; exact not_congr (h e d)
  exact and_congr (forall_congr' fun d => h' d c) (forall_congr' fun d => imp_congr_right fun _ => h d c)

/-- The noisy logit of row `r` and column `c`. -/
def z (x : FVec Ideal Sx .f32) (r : Fin 128) (c : Fin 100000) : EReal :=
  x (ix2 r c) + gum (F := Ideal) (BitVec.ofNat 32 (r.val * 100000 + c.val))

open Classical in
/-- The one-hot rows. -/
def hot (x : FVec Ideal Sx .f32) : FVec Ideal Sx .f32 := fun p => if IsTop (z x (p 0)) (p 1) then 1 else 0

/-- What the precondition says of the logits: no `+∞`, and no row that is `-∞` throughout. -/
def Good (x : FVec Ideal Sx .f32) : Prop := ∀ r : Fin 128, (∀ c, x (ix2 r c) ≠ ⊤) ∧ ∃ c, x (ix2 r c) ≠ ⊥

end Cert.Value

end
-- ==== Proof.Value.DrawReal.lean ====
module

public import proofs.«01_k».proof.Proof.Draw
public import Idealize.ShloMosaic.PureOps.Ideal
public import Idealize.ShloMosaic.PureOps.Ideal.Laws
public import Idealize.ShloMosaic.Lib.IdealHost

/-! # The draw is a real number

Read over the extended reals, the number made of 23 random bits lies in [0, 1), and the small constant added before
each logarithm is positive and far below `2^-23`.  So both logarithms are taken of positive reals, and the Gumbel
number of every position is a real: neither infinity occurs. -/

@[expose] public section

noncomputable section

namespace Cert.Draw

open Idealize.ShloMosaic

/-- The word whose upper nine bits are those of 1 and whose lower bits are the upper 23 of `b` denotes
`1 + k / 2^23`, where `k` is the number these 23 bits spell. -/
theorem mantissa (b : BitVec 32) :
    Ideal.ofBits .f32 ((b >>> 9#32) ||| 1065353216#32) = ((1 + ((b >>> 9#32).toNat : ℝ) / 8388608 : ℝ) : EReal) := by
  have hlt : (b >>> 9#32).toNat < 8388608 := by
    rw [BitVec.ushiftRight_eq', BitVec.toNat_ushiftRight, Nat.shiftRight_eq_div_pow]
    have := b.isLt
    rw [show (9#32 : BitVec 32).toNat = 9 from rfl]; omega
  have hfr : (((b >>> 9#32) ||| 1065353216#32).extractLsb' 0 23).toNat = (b >>> 9#32).toNat := by
    have : ((b >>> 9#32) ||| 1065353216#32).extractLsb' 0 23 = (b >>> 9#32).extractLsb' 0 23 := by
      ext i hi
      simp only [BitVec.getElem_extractLsb', BitVec.getLsbD_or, Nat.zero_add]
      have : (1065353216#32).getLsbD i = false := by
        revert i; decide
      rw [this, Bool.or_false]
    rw [this, BitVec.extractLsb'_toNat]
    simp only [Nat.shiftRight_zero]
    exact Nat.mod_eq_of_lt (by simpa using hlt)
  have hhi (n : ℕ) (hn : 23 ≤ n) : (b >>> 9#32).getLsbD n = false := by
    rw [BitVec.ushiftRight_eq', BitVec.getLsbD_ushiftRight, show (9#32 : BitVec 32).toNat = 9 from rfl]
    exact BitVec.getLsbD_of_ge _ _ (by omega)
  have hex : (((b >>> 9#32) ||| 1065353216#32).extractLsb' 23 8) = 127#8 := by
    ext i hi
    simp only [BitVec.getElem_extractLsb', BitVec.getLsbD_or]
    rw [hhi _ (by omega), Bool.false_or]
    revert i; decide
  have hsg : (((b >>> 9#32) ||| 1065353216#32).extractLsb' 31 1) = 0#1 := by
    ext i hi
    simp only [BitVec.getElem_extractLsb', BitVec.getLsbD_or]
    rw [hhi _ (by omega), Bool.false_or]
    revert i; decide
  unfold Ideal.ofBits Ideal.ieee
  simp only [hfr, hex, hsg]
  rw [if_neg (by decide), if_neg (by decide)]
  refine congrArg (fun r : ℝ => (r : EReal)) ?_
  rw [show (if (0#1 == 1#1) = true then (-1 : ℝ) else 1) = 1 from if_neg (by decide),
    show (((127#8).toNat : ℤ) - (2 ^ (8 - 1) - 1) - ((23 : ℕ) : ℤ)) = -23 from by decide]
  push_cast
  norm_num [zpow_neg]
  ring

/-- The small constant added before each logarithm: positive, and below `2^-23`. -/
theorem eps_real : ∃ e : ℝ, 0 < e ∧ e < 1 / 8388608 ∧ Ideal.ofBits .f32 0x1E3CE508#32 = ((e : ℝ) : EReal) := by
  refine ⟨(2 ^ 23 + 3990792 : ℝ) * (2 : ℝ) ^ (-90 : ℤ), by positivity, by norm_num [zpow_neg], ?_⟩
  unfold Ideal.ofBits Ideal.ieee
  simp only [show (0x1E3CE508#32).extractLsb' 23 8 = 60#8 from by decide,
    show ((0x1E3CE508#32).extractLsb' 0 23).toNat = 3990792 from by decide,
    show (0x1E3CE508#32).extractLsb' (8 + 23) 1 = 0#1 from by decide]
  rw [if_neg (by decide), if_neg (by decide)]
  refine congrArg (fun r : ℝ => (r : EReal)) ?_
  rw [show (if (0#1 == 1#1) = true then (-1 : ℝ) else 1) = 1 from if_neg (by decide),
    show (((60#8).toNat : ℤ) - (2 ^ (8 - 1) - 1) - ((23 : ℕ) : ℤ)) = -90 from by decide]
  push_cast
  ring

/-- The number made of the bits is a real in [0, 1 - 2^-23]. -/
theorem unif_real (b : BitVec 32) :
    ∃ u : ℝ, 0 ≤ u ∧ u ≤ 1 - 1 / 8388608 ∧ unif (F := Ideal) b = ((u : ℝ) : EReal) := by
  have hlt : (b >>> 9#32).toNat < 8388608 := by
    rw [BitVec.ushiftRight_eq', BitVec.toNat_ushiftRight, Nat.shiftRight_eq_div_pow]
    have := b.isLt
    rw [show (9#32 : BitVec 32).toNat = 9 from rfl]; omega
  refine ⟨((b >>> 9#32).toNat : ℝ) / 8388608, by positivity, ?_, ?_⟩
  · have : ((b >>> 9#32).toNat : ℝ) ≤ 8388607 := by exact_mod_cast Nat.le_of_lt_succ hlt
    linarith
  · show Ideal.ofBits .f32 _ - Ideal.ofBits .f32 0x3F800000#32 = _
    rw [mantissa, Ideal.ofBits_one_f32, show (1 : EReal) = ((1 : ℝ) : EReal) from rfl, ← EReal.coe_sub]
    refine congrArg (fun r : ℝ => (r : EReal)) ?_
    ring

/-- The negated logarithm of a positive real. -/
theorem neglog_coe {x : ℝ} (hx : 0 < x) : neglog (F := Ideal) ((x : ℝ) : EReal) = ((-Real.log x : ℝ) : EReal) := by
  show Ideal.ofBits .f32 0x00000000#32 - (if x ≤ 0 then (⊥ : EReal) else (Real.log x : EReal)) = _
  rw [if_neg (not_le.mpr hx), Ideal.ofBits_zero_f32, zero_sub, EReal.coe_neg]

/-- The Gumbel number of a position is a real. -/
theorem gum_real (w : BitVec 32) : ∃ g : ℝ, gum (F := Ideal) w = ((g : ℝ) : EReal) := by
  obtain ⟨u, h0, h1, hu⟩ := unif_real (bits w)
  obtain ⟨e, he, hs, hE⟩ := eps_real
  have hadd (x : ℝ) : addeps (F := Ideal) ((x : ℝ) : EReal) = ((x + e : ℝ) : EReal) := by
    show ((x : ℝ) : EReal) + Ideal.ofBits .f32 0x1E3CE508#32 = _
    rw [hE, ← EReal.coe_add]
  have hneg : Real.log (u + e) < 0 := Real.log_neg (by linarith) (by linarith)
  refine ⟨-Real.log (-Real.log (u + e) + e), ?_⟩
  unfold gum
  rw [hu, hadd, neglog_coe (by linarith), hadd, neglog_coe (by linarith)]

end Cert.Draw

end
-- ==== Proof.Value.Softmax.lean ====
module

public import proofs.«01_k».proof.Proof.Value.Top
public import proofs.«01_k».proof.Proof.Value.DrawReal

/-! # Softmax keeps the order

A row whose largest value is a real number `M`: the exponentials of the differences to `M` are reals, at least 0, and
in the order of the row's values.  Their sum is a real, at least 1.  So the quotients are reals, and in the same order. -/

@[expose] public section

noncomputable section

namespace Cert.Value

open Idealize.ShloMosaic Cert.Draw

/-- The exponential of the difference to `M`, as a real. -/
def ev (M : ℝ) (v : EReal) : ℝ := if v = ⊥ then 0 else Real.exp (v.toReal - M)

theorem ev_nonneg (M : ℝ) (v : EReal) : 0 ≤ ev M v := by
  unfold ev; split
  · exact le_refl _
  · exact (Real.exp_pos _).le

theorem exp_eq (M : ℝ) (v : EReal) (hv : v ≠ ⊤) : Ideal.exp (v - ((M : ℝ) : EReal)) = ((ev M v : ℝ) : EReal) := by
  induction v with
  | bot => rw [EReal.bot_sub]; unfold ev; rw [if_pos rfl]; rfl
  | top => exact absurd rfl hv
  | coe r => rw [← EReal.coe_sub]; unfold ev; rw [if_neg (EReal.coe_ne_bot r), EReal.toReal_coe]; rfl

theorem ev_lt (M : ℝ) {v w : EReal} (hv : v ≠ ⊤) (hw : w ≠ ⊤) : ev M v < ev M w ↔ v < w := by
  induction v with
  | top => exact absurd rfl hv
  | bot =>
    induction w with
    | top => exact absurd rfl hw
    | bot => simp
    | coe s =>
      refine iff_of_true ?_ (EReal.bot_lt_coe s)
      unfold ev; rw [if_pos rfl, if_neg (EReal.coe_ne_bot s)]; exact Real.exp_pos _
  | coe r =>
    induction w with
    | top => exact absurd rfl hw
    | bot =>
      have h : ev M ⊥ ≤ ev M (r : EReal) := by
        unfold ev; rw [if_pos rfl, if_neg (EReal.coe_ne_bot r)]; exact (Real.exp_pos _).le
      exact iff_of_false (not_lt.mpr h) (not_lt.mpr bot_le)
    | coe s =>
      unfold ev
      rw [if_neg (EReal.coe_ne_bot r), if_neg (EReal.coe_ne_bot s), EReal.toReal_coe, EReal.toReal_coe,
        Real.exp_lt_exp, EReal.coe_lt_coe_iff]
      exact ⟨fun h => by linarith, fun h => by linarith⟩

/-- A sum of reals, taken among the extended reals. -/
theorem coe_sum {n : ℕ} (f : Fin n → ℝ) : ∑ k, ((f k : ℝ) : EReal) = ((∑ k, f k : ℝ) : EReal) :=
  (map_sum (⟨⟨fun r : ℝ => (r : EReal), rfl⟩, EReal.coe_add⟩ : ℝ →+ EReal) f Finset.univ).symm

variable {n : ℕ} (v : Fin n → EReal) (M : ℝ)

/-- The quotient, as a real. -/
def quot (c : Fin n) : ℝ := ev M (v c) * (∑ k, ev M (v k))⁻¹

/-- The sum is at least 1 where the value `M` occurs. -/
theorem sum_pos (hM : ∃ c, v c = ((M : ℝ) : EReal)) : 0 < ∑ k, ev M (v k) := by
  obtain ⟨c, hc⟩ := hM
  refine Finset.sum_pos' (fun k _ => ev_nonneg M _) ⟨c, Finset.mem_univ c, ?_⟩
  unfold ev; rw [hc, if_neg (EReal.coe_ne_bot M)]; exact Real.exp_pos _

/-- The softmax of the row, element by element, is that real. -/
theorem softmax_eq (hv : ∀ c, v c ≠ ⊤) (hM : ∃ c, v c = ((M : ℝ) : EReal)) (c : Fin n) :
    Ideal.div (Ideal.exp (v c - ((M : ℝ) : EReal))) (∑ k, Ideal.exp (v k - ((M : ℝ) : EReal))) = ((quot v M c : ℝ) : EReal) := by
  have hs := sum_pos v M hM
  rw [Finset.sum_congr rfl fun k _ => exp_eq M (v k) (hv k), coe_sum, exp_eq M (v c) (hv c)]
  unfold Ideal.div
  rw [if_neg (by rw [← EReal.coe_zero, EReal.coe_eq_coe_iff]; exact hs.ne'), ← EReal.coe_inv, ← EReal.coe_mul]
  rfl

/-- It is at least 0. -/
theorem quot_nonneg (hM : ∃ c, v c = ((M : ℝ) : EReal)) (c : Fin n) : 0 ≤ quot v M c :=
  mul_nonneg (ev_nonneg M _) (inv_nonneg.mpr (sum_pos v M hM).le)

/-- It is in the order of the row's values. -/
theorem quot_lt (hv : ∀ c, v c ≠ ⊤) (hM : ∃ c, v c = ((M : ℝ) : EReal)) (c d : Fin n) :
    quot v M c < quot v M d ↔ v c < v d := by
  unfold quot
  rw [mul_lt_mul_iff_left₀ (inv_pos.mpr (sum_pos v M hM))]
  exact ev_lt M (hv c) (hv d)

/-- A row with no `+∞` and not `-∞` throughout has a largest value, a real. -/
theorem exists_max [NeZero n] (hv : ∀ c, v c ≠ ⊤) (hb : ∃ c, v c ≠ ⊥) :
    ∃ M : ℝ, (∀ c, v c ≤ ((M : ℝ) : EReal)) ∧ ∃ c, v c = ((M : ℝ) : EReal) := by
  obtain ⟨c, -, hc⟩ := Finset.exists_max_image Finset.univ v ⟨0, Finset.mem_univ _⟩
  obtain ⟨b, hb⟩ := hb
  have h1 : v c ≠ ⊥ := fun e => hb (le_bot_iff.mp (e ▸ hc b (Finset.mem_univ _)))
  have e : ((v c).toReal : EReal) = v c := EReal.coe_toReal (hv c) h1
  exact ⟨(v c).toReal, fun d => e.symm ▸ hc d (Finset.mem_univ _), c, e.symm⟩

/-- The noisy logits of good logits are such rows. -/
theorem z_good {x : FVec Ideal Sx .f32} (hx : Good x) (r : Fin 128) : (∀ c, z x r c ≠ ⊤) ∧ ∃ c, z x r c ≠ ⊥ := by
  obtain ⟨h1, b, hb⟩ := hx r
  constructor
  · intro c
    obtain ⟨g, hg⟩ := gum_real (BitVec.ofNat 32 (r.val * 100000 + c.val))
    unfold z; rw [hg]
    exact EReal.add_ne_top (h1 c) (EReal.coe_ne_top g)
  · obtain ⟨g, hg⟩ := gum_real (BitVec.ofNat 32 (r.val * 100000 + b.val))
    refine ⟨b, ?_⟩
    unfold z; rw [hg, Ne, EReal.add_eq_bot_iff, not_or]
    exact ⟨hb, EReal.coe_ne_bot g⟩

/-- Taking a real away from a real and adding it again changes nothing. -/
theorem sub_add_self (h y : ℝ) : (((h : ℝ) : EReal) - ((y : ℝ) : EReal)) + ((y : ℝ) : EReal) = ((h : ℝ) : EReal) := by
  rw [← EReal.coe_sub, ← EReal.coe_add, sub_add_cancel]

end Cert.Value

end
-- ==== Proof.Value.Best.lean ====
module

public import proofs.«01_k».proof.Proof.Value.Softmax

/-! # The best column of a stretch of columns

The kernel finds a row's column piece by piece.  `Best w a b M k` says of one stretch `[a, b)` of columns that `M` is its
largest value and the word `k` its least column with that value.  Stretches are put together by a fold of `max` and one of
`min`, and two neighbouring ones by a comparison. -/

@[expose] public section

noncomputable section

namespace Cert.Value

open Idealize.ShloMosaic Idealize.ShloMosaic.ValueIdx Cert.Draw

/-- A row's noisy logits, with `-∞` past the last column. -/
def wide (x : FVec Ideal Sx .f32) (r : Fin 128) (c : ℕ) : EReal :=
  if h : c < 100000 then z x r ⟨c, h⟩ else ⊥

/-- `M` is the largest of the values at `a ≤ c < b`, and `k` the least such column that has it. -/
def Best (w : ℕ → EReal) (a b : ℕ) (M : EReal) (k : BitVec 32) : Prop :=
  (∀ c, a ≤ c → c < b → w c ≤ M)
    ∧ ∃ c, a ≤ c ∧ c < b ∧ k = BitVec.ofNat 32 c ∧ w c = M ∧ ∀ d, a ≤ d → d < c → w d < M

/-- Two neighbours: the right one's result stands where its maximum is strictly larger. -/
theorem Best.append {w : ℕ → EReal} {a b e : ℕ} {M N : EReal} {k l : BitVec 32} (h1 : Best w a b M k)
    (h2 : Best w b e N l) :
    Best w a e (if M < N then N else M) (if M < N then l else k) := by
  obtain ⟨u1, c, hac, hcb, hk, hc, f1⟩ := h1
  obtain ⟨u2, d, hbd, hde, hl, hd, f2⟩ := h2
  by_cases h : M < N
  · rw [if_pos h, if_pos h]
    refine ⟨fun q hq hq' => ?_, d, by omega, hde, hl, hd, fun q hq hq' => ?_⟩
    · rcases lt_or_ge q b with hb | hb
      · exact (u1 q hq hb).trans h.le
      · exact u2 q hb hq'
    · rcases lt_or_ge q b with hb | hb
      · exact lt_of_le_of_lt (u1 q hq hb) h
      · exact f2 q hb hq'
  · rw [if_neg h, if_neg h]
    refine ⟨fun q hq hq' => ?_, c, hac, by omega, hk, hc, f1⟩
    rcases lt_or_ge q b with hb | hb
    · exact u1 q hq hb
    · exact (u2 q hb hq').trans (not_lt.mp h)

theorem toInt_minsi (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (by simpa using h), min_eq_right (not_lt.mp h)]

theorem toInt_ofNat {n : ℕ} (h : n < 2147483648) : (BitVec.ofNat 32 n).toInt = (n : ℤ) := by
  rw [BitVec.toInt_eq_toNat_of_lt] <;> simp only [BitVec.toNat_ofNat] <;> omega

open Classical in
/-- A fold of `max` and, where it is reached, one of `min` over words: the largest value, and the least word that goes
with it. -/
theorem fold_first {n : ℕ} [NeZero n] (f : Fin n → EReal) (g : Fin n → ℕ) (k : Fin n → BitVec 32)
    (hg : ∀ i, g i < 2147483647) (hk : ∀ i, k i = BitVec.ofNat 32 (g i)) (M : EReal)
    (hM : M = (Finset.univ : Finset (Fin n)).fold max ⊥ f) :
    (∀ i, f i ≤ M) ∧ ∃ i, f i = M
      ∧ (Finset.univ : Finset (Fin n)).fold IntOp.minsi 2147483647#32 (fun j => if f j = M then k j else 2147483647#32)
          = BitVec.ofNat 32 (g i)
      ∧ ∀ j, f j = M → g i ≤ g j := by
  have hle (i : Fin n) : f i ≤ M := hM ▸ (Finset.le_fold_max _).mpr (Or.inr ⟨i, Finset.mem_univ i, le_refl _⟩)
  have hex : ∃ i, f i = M := by
    obtain ⟨i, -, hi⟩ := Finset.exists_max_image Finset.univ f ⟨0, Finset.mem_univ _⟩
    refine ⟨i, le_antisymm (hle i) ?_⟩
    rw [hM]; exact (Finset.fold_max_le _).mpr ⟨bot_le, hi⟩
  obtain ⟨i, hi, hmin⟩ := Finset.exists_min_image (Finset.univ.filter fun i => f i = M) g
    (hex.imp fun i hi => Finset.mem_filter.mpr ⟨Finset.mem_univ i, hi⟩)
  have hi' : f i = M := (Finset.mem_filter.mp hi).2
  have hmin' (j : Fin n) (hj : f j = M) : g i ≤ g j := hmin j (Finset.mem_filter.mpr ⟨Finset.mem_univ j, hj⟩)
  refine ⟨hle, i, hi', ?_, hmin'⟩
  refine BitVec.eq_of_toInt_eq ?_
  have hgi := hg i
  rw [← Finset.fold_hom (op' := (min : ℤ → ℤ → ℤ)) toInt_minsi, toInt_ofNat (n := g i) (by omega)]
  refine le_antisymm ((Finset.fold_min_le _).mpr (Or.inr ⟨i, Finset.mem_univ i, ?_⟩))
    ((Finset.le_fold_min _).mpr ⟨?_, fun j _ => ?_⟩)
  · rw [if_pos hi', hk, toInt_ofNat (by omega)]
  · show (g i : ℤ) ≤ (2147483647#32).toInt
    rw [show (2147483647#32).toInt = 2147483647 from rfl]; omega
  · by_cases hj : f j = M
    · rw [if_pos hj, hk, toInt_ofNat (by have := hg j; omega)]; exact_mod_cast hmin' j hj
    · rw [if_neg hj, show (2147483647#32).toInt = 2147483647 from rfl]; omega

open Classical in
/-- One stretch of `n` columns from `a`. -/
theorem best_stretch {n : ℕ} [NeZero n] (w : ℕ → EReal) (a : ℕ) (ha : a + n ≤ 102400) (f : Fin n → EReal)
    (hf : ∀ i, f i = w (a + i.val)) (k : Fin n → BitVec 32) (hk : ∀ i, k i = BitVec.ofNat 32 (a + i.val)) :
    Best w a (a + n) ((Finset.univ : Finset (Fin n)).fold max ⊥ f)
      ((Finset.univ : Finset (Fin n)).fold IntOp.minsi 2147483647#32
        (fun j => if f j = (Finset.univ : Finset (Fin n)).fold max ⊥ f then k j else 2147483647#32)) := by
  obtain ⟨h1, i, hi, hw, hmin⟩ := fold_first f (fun i => a + i.val) k (fun i => by have := i.isLt; omega) hk _ rfl
  have hil := i.isLt
  refine ⟨fun c hc hc' => ?_, a + i.val, by omega, by omega, hw, (hf i).symm.trans hi, fun d hd hd' => ?_⟩
  · have e := hf ⟨c - a, by omega⟩
    rw [show a + (c - a) = c by omega] at e
    exact e ▸ h1 _
  · have e := hf ⟨d - a, by omega⟩
    rw [show a + (d - a) = d by omega] at e
    refine lt_of_le_of_ne (e ▸ h1 _) fun h => ?_
    have := hmin ⟨d - a, by omega⟩ (e.trans h)
    dsimp only at this
    omega

theorem below {n j c : ℕ} (hj : j < n) (hc : c < j * 4096 + 4096) : c < n * 4096 :=
  lt_of_lt_of_le hc ((Nat.succ_mul j 4096).symm.le.trans (Nat.mul_le_mul_right 4096 hj))

theorem home_of (d : ℕ) : d / 4096 * 4096 ≤ d ∧ d < d / 4096 * 4096 + 4096 :=
  ⟨Nat.div_mul_le_self d 4096, Nat.lt_div_mul_add (by norm_num)⟩

open Classical in
/-- Neighbouring stretches of 4096 columns put together. -/
theorem best_blocks {n : ℕ} [NeZero n] (w : ℕ → EReal) (hn : n * 4096 ≤ 102400) (f : Fin n → EReal)
    (k : Fin n → BitVec 32) (h : ∀ j : Fin n, Best w (j.val * 4096) (j.val * 4096 + 4096) (f j) (k j)) :
    Best w 0 (n * 4096) ((Finset.univ : Finset (Fin n)).fold max ⊥ f)
      ((Finset.univ : Finset (Fin n)).fold IntOp.minsi 2147483647#32
        (fun j => if f j = (Finset.univ : Finset (Fin n)).fold max ⊥ f then k j else 2147483647#32)) := by
  choose h1 c hc1 hc2 hk hc h2 using h
  have hcn (j : Fin n) : c j < n * 4096 := by
    exact below j.isLt (hc2 j)
  obtain ⟨g1, i, hi, hw, hmin⟩ := fold_first f c k (fun j => by have := hcn j; omega) hk _ rfl
  have home (d : ℕ) (hd : d < n * 4096) : ∃ j : Fin n, j.val * 4096 ≤ d ∧ d < j.val * 4096 + 4096 :=
    ⟨⟨d / 4096, by omega⟩, (home_of d).1, (home_of d).2⟩
  refine ⟨fun d _ hd => ?_, c i, Nat.zero_le _, hcn i, hw, (hc i).trans hi, fun d _ hd => ?_⟩
  · obtain ⟨j, hj, hj'⟩ := home d hd
    exact (h1 j d hj hj').trans (g1 j)
  · obtain ⟨j, hj, hj'⟩ := home d (hd.trans (hcn i))
    refine lt_of_le_of_ne ((h1 j d hj hj').trans (g1 j)) fun e => ?_
    have e1 : f j = (Finset.univ : Finset (Fin n)).fold max ⊥ f := le_antisymm (g1 j) (e ▸ h1 j d hj hj')
    have e2 := hmin j e1
    have e3 : w d < f j := h2 j d hj (by omega)
    rw [e, e1] at e3
    exact lt_irrefl _ e3

/-- The best column of all the stretches, where the row has a value above `-∞`: the row's column. -/
theorem Best.isTop {x : FVec Ideal Sx .f32} {r : Fin 128} {M : EReal} {k : BitVec 32}
    (h : Best (wide x r) 0 102400 M k) (hx : ∃ c, z x r c ≠ ⊥) :
    ∃ c : Fin 100000, k = BitVec.ofNat 32 c.val ∧ IsTop (z x r) c := by
  obtain ⟨h1, c, -, hc, hk, hM, h2⟩ := h
  have hw (d : Fin 100000) : wide x r d.val = z x r d := by unfold wide; rw [dif_pos d.isLt]
  have hlt : c < 100000 := by
    by_contra hn
    obtain ⟨b, hb⟩ := hx
    have e : wide x r c = ⊥ := by unfold wide; rw [dif_neg hn]
    have hb' := h1 b.val (Nat.zero_le _) (by have := b.isLt; omega)
    rw [← hM, e, hw] at hb'
    exact hb (le_bot_iff.mp hb')
  have hwc : z x r ⟨c, hlt⟩ = M := (hw ⟨c, hlt⟩).symm.trans hM
  refine ⟨⟨c, hlt⟩, hk, fun d => ?_, fun d hd => ?_⟩
  · rw [hwc, ← hw]; exact h1 _ (Nat.zero_le _) (by have := d.isLt; omega)
  · rw [hwc, ← hw]; exact h2 _ (Nat.zero_le _) hd

end Cert.Value

end
-- ==== Proof.KernelIdeal.Value.Rows.lean ====
module

public import proofs.«01_k».proof.Proof.KernelIdeal.Columns
public import proofs.«01_k».proof.Proof.Value.Best
public import Idealize.ShloMosaic.Lib.Pipeline.Value

/-! # A block's row results, read among the extended reals

A chunk's row maximum is the fold of `max` over the row and its column the fold of `min` over the columns that have it.
The four chunks of a block together give the best column of the block's 4096. -/

@[expose] public section

set_option maxRecDepth 8192

noncomputable section

namespace Cert.KernelIdeal.Gen

open Idealize.ShloMosaic Idealize.ShloMosaic.TcCoe Idealize.ShloMosaic.ValueIdx Cert.Draw Cert.Value

/-- The pattern of `-∞`. -/
theorem bits_neg_inf : Ideal.ofBits .f32 0xFF800000#32 = ⊥ := by simp [Ideal.ofBits, Ideal.ieee]

open Classical in
/-- A word chosen by an equality of two values. -/
theorem select_eq (a b : EReal) (u v : BitVec 32) :
    Scalar.select (FloatOps.cmpf (F := Ideal) (φ := .f32) .oeq a b) u v = if a = b then u else v := by
  have e : FloatOps.cmpf (F := Ideal) (φ := .f32) .oeq a b = BitVec.ofBool (decide (a = b)) := rfl
  rw [e]
  by_cases h : a = b
  · rw [if_pos h, decide_eq_true h]; rfl
  · rw [if_neg h, decide_eq_false h]; rfl

open Classical in
/-- Anything chosen by a strict comparison of two values. -/
theorem select_gt {α : Type} (a b : EReal) (u v : α) :
    Scalar.select (FloatOps.cmpf (F := Ideal) (φ := .f32) .ogt a b) u v = if b < a then u else v := by
  have e : FloatOps.cmpf (F := Ideal) (φ := .f32) .ogt a b = BitVec.ofBool (decide (b < a)) := rfl
  rw [e]
  by_cases h : b < a
  · rw [if_pos h, decide_eq_true h]; rfl
  · rw [if_neg h, decide_eq_false h]; rfl

theorem lift_row (r : Fin 128) (k : Fin 1024) : reduces_S128x1024_S128.lift (ix1 r) k = ix2 r k :=
  funext fun a => Fin.ext (by match a with | ⟨0, _⟩ => rfl | ⟨1, _⟩ => rfl)

/-- A vector of 128 read as a column. -/
theorem as_col {α : Type} (x : S128.Idx → α) (r : Fin 128) :
    shapeCast S128x1 x shapeCasts_S128_S128x1 (ix2 r (0 : Fin 1)) = x (ix1 r) := by
  refine shapeCast_apply x _ _ _ ?_
  rw [Shape.rowMajor_val_one, Shape.rowMajor_val_two]
  show r.val = r.val * 1 + 0
  omega

theorem rowMax_apply (Z : FVec Ideal S128x1024 .f32) (r : Fin 128) :
    rowMax Z (ix2 r (0 : Fin 1)) = (Finset.univ : Finset (Fin 1024)).fold max ⊥ fun k => Z (ix2 r k) := by
  refine (as_col _ r).trans ((Ideal.multiReduction_maximumf_single Z 0xFF800000#32 reduces_S128x1024_S128 (.inl rfl) rfl
    (ix1 r)).trans ?_)
  show Finset.fold max (Ideal.ofBits .f32 0xFF800000#32) (Z ∘ reduces_S128x1024_S128.lift (ix1 r)) Finset.univ = _
  rw [bits_neg_inf]
  exact congrArg (fun f : Fin 1024 → EReal => Finset.fold max ⊥ f Finset.univ) (funext fun k => congrArg Z (lift_row r k))

/-- One number per row, at every element of the row. -/
theorem spread_apply {α : Type} (x : S128x1.Idx → α) (r : Fin 128) (k : Fin 1024) :
    broadcastTo S128x1024 x broadcasts_S128x1_S128x1024 (ix2 r k) = x (ix2 r (0 : Fin 1)) :=
  broadcastTo_apply x _ _ _ fun a => by match a with | ⟨0, _⟩ => rfl | ⟨1, _⟩ => rfl

open Classical in
theorem rowArg_apply (Z : FVec Ideal S128x1024 .f32) (col : IVec S128x1024 32) (r : Fin 128) :
    rowArg Z col (ix2 r (0 : Fin 1)) = (Finset.univ : Finset (Fin 1024)).fold IntOp.minsi 2147483647#32
      fun k => if Z (ix2 r k) = (Finset.univ : Finset (Fin 1024)).fold max ⊥ (fun k => Z (ix2 r k)) then col (ix2 r k)
        else 2147483647#32 := by
  refine (as_col _ r).trans ((multiReductionI_eq_fold .minsi _ 2147483647#32 reduces_S128x1024_S128 rfl (ix1 r)).trans
    ((reduces_S128x1024_S128.fold_filter_drop_single _ _ _ (ix1 r)).trans ?_))
  refine congrArg (fun f : Fin 1024 → BitVec 32 => Finset.fold IntOp.minsi 2147483647#32 f Finset.univ)
    (funext fun (k : Fin 1024) => ?_)
  have e (M : FVec Ideal S128x1024 .f32) (p : S128x1024.Idx) :
      select (cmpf .oeq Z M) col (broadcast S128x1024 2147483647#32) p = if Z p = M p then col p else 2147483647#32 :=
    select_eq (Z p) (M p) (col p) 2147483647#32
  refine (congrArg _ (lift_row r k)).trans ?_
  rw [e, spread_apply, rowMax_apply]

open Classical in
/-- The choice by a strict comparison, element by element. -/
theorem pick_apply {α : Type} (A B : FVec Ideal S128x1 .f32) (u v : S128x1.Idx → α) (p : S128x1.Idx) :
    select (cmpf .ogt A B) u v p = if B p < A p then u p else v p := select_gt (A p) (B p) (u p) (v p)

/-- A chunk's two results at row `r`, where its elements are the values `w` from column `a` on. -/
theorem best_chunk (w : ℕ → EReal) (a : ℕ) (ha : a + 1024 ≤ 102400) (r : Fin 128) (Z : FVec Ideal S128x1024 .f32)
    (col : IVec S128x1024 32) (hZ : ∀ k : Fin 1024, Z (ix2 r k) = w (a + k.val))
    (hc : ∀ k : Fin 1024, col (ix2 r k) = BitVec.ofNat 32 (a + k.val)) :
    Best w a (a + 1024) (rowMax Z (ix2 r (0 : Fin 1))) (rowArg Z col (ix2 r (0 : Fin 1))) := by
  rw [rowMax_apply, rowArg_apply]
  exact best_stretch w a ha (fun k => Z (ix2 r k)) hZ (fun k => col (ix2 r k)) hc

open Classical in
/-- One more chunk taken in. -/
theorem best_step (w : ℕ → EReal) (a b : ℕ) (hb : b + 1024 ≤ 102400) (r : Fin 128) (m : FVec Ideal S128x1 .f32)
    (n : IVec S128x1 32) (Z : FVec Ideal S128x1024 .f32) (col : IVec S128x1024 32)
    (h : Best w a b (m (ix2 r (0 : Fin 1))) (n (ix2 r (0 : Fin 1))))
    (hZ : ∀ k : Fin 1024, Z (ix2 r k) = w (b + k.val))
    (hc : ∀ k : Fin 1024, col (ix2 r k) = BitVec.ofNat 32 (b + k.val)) :
    Best w a (b + 1024) (stepMax m Z (ix2 r (0 : Fin 1))) (stepArg m n Z col (ix2 r (0 : Fin 1))) := by
  unfold stepMax stepArg
  rw [pick_apply, pick_apply]
  exact h.append (best_chunk w b hb r Z col hZ hc)

/-- The columns of a chunk, along a row. -/
theorem colAt_row (i : grid0.Coords) (k : ℕ) (r : Fin 128) (q : Fin 1024) :
    colAt i (BitVec.ofNat 32 k) (ix2 r q) = BitVec.ofNat 32 ((i 0).val * 4096 + k + q.val) := colAt_eq i k (ix2 r q)

/-- Four chunks taken in one after the other. -/
theorem best_four (w : ℕ → EReal) (a : ℕ) (ha : a + 4096 ≤ 102400) (r : Fin 128) (Z0 Z1 Z2 Z3 : FVec Ideal S128x1024 .f32)
    (c0 c1 c2 c3 : IVec S128x1024 32)
    (h0 : ∀ q : Fin 1024, Z0 (ix2 r q) = w (a + q.val)) (h1 : ∀ q : Fin 1024, Z1 (ix2 r q) = w (a + 1024 + q.val))
    (h2 : ∀ q : Fin 1024, Z2 (ix2 r q) = w (a + 2048 + q.val)) (h3 : ∀ q : Fin 1024, Z3 (ix2 r q) = w (a + 3072 + q.val))
    (k0 : ∀ q : Fin 1024, c0 (ix2 r q) = BitVec.ofNat 32 (a + q.val))
    (k1 : ∀ q : Fin 1024, c1 (ix2 r q) = BitVec.ofNat 32 (a + 1024 + q.val))
    (k2 : ∀ q : Fin 1024, c2 (ix2 r q) = BitVec.ofNat 32 (a + 2048 + q.val))
    (k3 : ∀ q : Fin 1024, c3 (ix2 r q) = BitVec.ofNat 32 (a + 3072 + q.val)) :
    Best w a (a + 4096) (stepMax (stepMax (stepMax (rowMax Z0) Z1) Z2) Z3 (ix2 r (0 : Fin 1)))
      (stepArg (stepMax (stepMax (rowMax Z0) Z1) Z2) (stepArg (stepMax (rowMax Z0) Z1) (stepArg (rowMax Z0) (rowArg Z0 c0) Z1 c1)
        Z2 c2) Z3 c3 (ix2 r (0 : Fin 1))) := by
  have e2 : a + 1024 + 1024 = a + 2048 := by omega
  have e3 : a + 2048 + 1024 = a + 3072 := by omega
  have e4 : a + 3072 + 1024 = a + 4096 := by omega
  have b1 := best_chunk w a (by omega) r Z0 c0 h0 k0
  have b2 := best_step w a (a + 1024) (by omega) r (rowMax Z0) (rowArg Z0 c0) Z1 c1 b1 h1 k1
  rw [e2] at b2
  have b3 := best_step w a (a + 2048) (by omega) r _ _ Z2 c2 b2 h2 k2
  rw [e3] at b3
  have b4 := best_step w a (a + 3072) (by omega) r _ _ Z3 c3 b3 h3 k3
  rw [e4] at b4
  exact b4

theorem block_fits {n : ℕ} (hn : n ≤ 24) : n * 4096 + 4096 ≤ 102400 :=
  Nat.add_le_add_right (Nat.mul_le_mul_right 4096 hn) 4096

/-- A block's two results at row `r`, where its chunks' noisy logits are the values `w` from the block's first column
on. -/
theorem best_block (w : ℕ → EReal) (i : grid0.Coords) (r : Fin 128) (x0 x1 x2 x3 : Vec Ideal S128x1024 .f32)
    (h0 : ∀ q : Fin 1024, noisy i 0#32 x0 (ix2 r q) = w ((i 0).val * 4096 + q.val))
    (h1 : ∀ q : Fin 1024, noisy i 1024#32 x1 (ix2 r q) = w ((i 0).val * 4096 + 1024 + q.val))
    (h2 : ∀ q : Fin 1024, noisy i 2048#32 x2 (ix2 r q) = w ((i 0).val * 4096 + 2048 + q.val))
    (h3 : ∀ q : Fin 1024, noisy i 3072#32 x3 (ix2 r q) = w ((i 0).val * 4096 + 3072 + q.val)) :
    Best w ((i 0).val * 4096) ((i 0).val * 4096 + 4096) (max4 i x0 x1 x2 x3 (ix2 r (0 : Fin 1)))
      (arg4 i x0 x1 x2 x3 (ix2 r (0 : Fin 1))) := by
  unfold arg4 arg3 arg2 arg1 max4 max3 max2 max1
  refine best_four w _ (block_fits (Nat.le_of_lt_succ (i 0).isLt)) r _ _ _ _ _ _ _ _ h0 h1 h2 h3 (fun q => ?_)
    (colAt_row i 1024 r) (colAt_row i 2048 r) (colAt_row i 3072 r)
  rw [colAt_row i 0 r q, Nat.add_zero]

end Cert.KernelIdeal.Gen

end
-- ==== Proof.KernelIdeal.Value.Blocks.lean ====
module

public import proofs.«01_k».proof.Proof.KernelIdeal.Value.Rows
public import proofs.«01_k».proof.Proof.KernelIdeal.First
public import Idealize.ShloMosaic.Lib.Pipeline.ValueKit

/-! # What the first pass computes from the logits

At each point the block of logits is a stretch of 4096 columns of the matrix.  So the two numbers stored for a row are
the largest noisy logit of the row's stretch and the least column of the stretch that has it. -/

@[expose] public section

set_option maxRecDepth 16384

noncomputable section

namespace Cert.KernelIdeal.Gen

open Idealize.ShloMosaic hiding ix1 ix2 ix3
open Idealize.ShloMosaic.TcCoe Idealize.ShloMosaic.ValueIdx Cert.Draw Cert.Value

/-- The only coordinate of a point is its number. -/
theorem coord0 : ∀ t : Fin cfg0.N, (grid0.coords t 0).val = t.val := by decide +kernel

variable (V : (c : Dev nD) → (b : Ref sig .tc) → Buf (Elt Ideal) ((c : Thread nD τ).loc b))

theorem column_index (i : grid0.Coords) : cc0_transform_0 i 1 = (i 0).val := by
  have hi : (i 0).val < 25 := (i 0).isLt
  show (BitVec.ofNat 32 (i 0).val).toNat = _
  rw [BitVec.toNat_ofNat, Nat.mod_eq_of_lt (by omega)]

/-- An element of the block at a point, where its column is one of the matrix's. -/
theorem logits_apply (c : Dev nD) (t : Fin cfg0.N) (y : S128x4096.Idx) (h : (grid0.coords t 0).val * 4096 + (y 1).val < 100000) :
    logits V c t y = (V c main_arg0 : FVec Ideal S128x100000 .f32) (ix2 (y 0) ⟨(grid0.coords t 0).val * 4096 + (y 1).val, h⟩) := by
  unfold logits Pipeline.Window.fill
  rw [dif_pos (moved_of_col _ y h)]
  refine congrArg (V c main_arg0 : FVec Ideal S128x100000 .f32) (funext fun a => Fin.ext ?_)
  match a with
  | ⟨0, _⟩ => exact (ValueKit.view_emb_slice_whole_unit_val main_arg0 _ _ _ _ _).trans (Nat.zero_add _)
  | ⟨1, _⟩ =>
    refine (ValueKit.view_emb_slice_whole_unit_val main_arg0 _ _ _ _ _).trans ?_
    exact congrArg (fun n => n * 4096 + (y 1).val) (column_index (grid0.coords t))

/-- A chunk's noisy logits are the row's, extended past the matrix by `-∞`. -/
theorem chunk_wide (c : Dev nD) (t : Fin cfg0.N) (k : ℕ) (hk : k ≤ 3072) (r : Fin 128) (q : Fin 1024)
    (x : Vec Ideal S128x1024 .f32) (y : S128x4096.Idx) (hx : x (ix2 r q) = logits V c t y) (h0 : y 0 = r)
    (h1 : (y 1).val = k + q.val) :
    noisy (grid0.coords t) (BitVec.ofNat 32 k) x (ix2 r q)
      = wide (V c main_arg0) r ((grid0.coords t 0).val * 4096 + k + q.val) := by
  rw [noisy_apply _ hk]
  have e : colN (grid0.coords t) k (ix2 r q) = (grid0.coords t 0).val * 4096 + k + q.val := rfl
  rw [e]
  unfold wide
  by_cases h : (grid0.coords t 0).val * 4096 + k + q.val < 100000
  · rw [if_pos h, dif_pos h, hx]
    have h' : (grid0.coords t 0).val * 4096 + (y 1).val < 100000 := by rw [h1, ← Nat.add_assoc]; exact h
    rw [logits_apply V c t y h']
    have e' : (⟨(grid0.coords t 0).val * 4096 + (y 1).val, h'⟩ : Fin 100000)
        = ⟨(grid0.coords t 0).val * 4096 + k + q.val, h⟩ :=
      Fin.ext ((congrArg ((grid0.coords t 0).val * 4096 + ·) h1).trans (Nat.add_assoc _ _ _).symm)
    rw [e', h0]
    rfl
  · rw [if_neg h, dif_neg h]
    exact bits_neg_inf

theorem zeros2 : (![0, 0] : Fin 2 → ℕ) = fun _ => 0 := funext fun a => by match a with | ⟨0, _⟩ => rfl | ⟨1, _⟩ => rfl
theorem zeros3 : (![0, 0, 0] : Fin 3 → ℕ) = fun _ => 0 :=
  funext fun a => by match a with | ⟨0, _⟩ => rfl | ⟨1, _⟩ => rfl | ⟨2, _⟩ => rfl

/-- A column of 128 seen as one block of the results. -/
theorem as_block {α : Type} (x : S128x1.Idx → α) (r : Fin 128) :
    shapeCast S1x128x1 x shapeCasts_S128x1_S1x128x1 (ix3 (0 : Fin 1) r (0 : Fin 1)) = x (ix2 r (0 : Fin 1)) :=
  shapeCast_apply x _ _ _ (by rw [Shape.rowMajor_val_two, Shape.rowMajor_val_three]; simp [ix2, ix3])

theorem topOf_apply (i : grid0.Coords) (x : Vec Ideal S128x4096 .f32) (r : Fin 128) :
    topOf i x (ix3 (0 : Fin 1) r (0 : Fin 1))
      = max4 i (View.ld x r0_0) (View.ld x r0_1) (View.ld x r0_2) (View.ld x r0_3) (ix2 r (0 : Fin 1)) := by
  unfold topOf
  rw [View.canon_unit_zero zeros3]
  exact as_block _ r

theorem whereOf_apply (i : grid0.Coords) (x : Vec Ideal S128x4096 .f32) (r : Fin 128) :
    whereOf i x (ix3 (0 : Fin 1) r (0 : Fin 1))
      = arg4 i (View.ld x r0_0) (View.ld x r0_1) (View.ld x r0_2) (View.ld x r0_3) (ix2 r (0 : Fin 1)) := by
  unfold whereOf
  rw [View.canon_unit_zero zeros3]
  exact as_block _ r

/-- The two numbers stored for row `r` at point `t`. -/
theorem best_point (c : Dev nD) (t : Fin cfg0.N) (r : Fin 128) :
    Best (wide (V c main_arg0) r) (t.val * 4096) (t.val * 4096 + 4096)
      (topOf (grid0.coords t) (logits V c t) (ix3 (0 : Fin 1) r (0 : Fin 1)))
      (whereOf (grid0.coords t) (logits V c t) (ix3 (0 : Fin 1) r (0 : Fin 1))) := by
  rw [topOf_apply, whereOf_apply, ← coord0 t]
  refine best_block _ _ r _ _ _ _ (fun q => ?_) (fun q => ?_) (fun q => ?_) (fun q => ?_)
  · refine (chunk_wide V c t 0 (by omega) r q _ (r0_0.idx (ix2 r q)) rfl ?_ ?_).trans ?_
    · exact Fin.ext ((Nat.zero_add _).trans (Nat.one_mul _))
    · exact congrArg (0 + ·) (Nat.one_mul _)
    · rw [Nat.add_zero]
  · refine chunk_wide V c t 1024 (by omega) r q _ (r0_1.idx (ix2 r q)) rfl ?_ ?_
    · exact Fin.ext ((Nat.zero_add _).trans (Nat.one_mul _))
    · exact congrArg (1024 + ·) (Nat.one_mul _)
  · refine chunk_wide V c t 2048 (by omega) r q _ (r0_2.idx (ix2 r q)) rfl ?_ ?_
    · exact Fin.ext ((Nat.zero_add _).trans (Nat.one_mul _))
    · exact congrArg (2048 + ·) (Nat.one_mul _)
  · refine chunk_wide V c t 3072 (by omega) r q _ (r0_3.idx (ix2 r q)) rfl ?_ ?_
    · exact Fin.ext ((Nat.zero_add _).trans (Nat.one_mul _))
    · exact congrArg (3072 + ·) (Nat.one_mul _)

end Cert.KernelIdeal.Gen

end
-- ==== Proof.KernelIdeal.Value.Arrays.lean ====
module

public import proofs.«01_k».proof.Proof.KernelIdeal.Value.Blocks
public import proofs.«01_k».proof.Proof.KernelIdeal.Second

/-! # What the first pass leaves in its two arrays

Point `n` writes entry `n` of both arrays, so each array ends up holding what every point stored. -/

@[expose] public section

set_option maxRecDepth 16384

noncomputable section

namespace Cert.KernelIdeal.Gen

open Idealize.ShloMosaic hiding ix1 ix2 ix3
open Idealize.ShloMosaic.TcCoe Idealize.ShloMosaic.ValueIdx Cert.Draw Cert.Value

/-- The first pass has 25 points. -/
theorem points0 : cfg0.N = 25 := by decide +kernel

/-- The point with a given number. -/
def point0 (n : Fin 25) : Fin cfg0.N := ⟨n.val, Nat.lt_of_lt_of_eq n.isLt points0.symm⟩

variable (V : (c : Dev nD) → (b : Ref sig .tc) → Buf (Elt Ideal) ((c : Thread nD τ).loc b))

/-- The maxima, -/
def tops (c : Dev nD) : FVec Ideal S25x128x1 .f32 := fun p =>
  topOf (grid0.coords (point0 (p 0))) (logits V c (point0 (p 0))) (ix3 (0 : Fin 1) (p 1) (0 : Fin 1))
/-- and the columns. -/
def wheres (c : Dev nD) : IVec S25x128x1 32 := fun p =>
  whereOf (grid0.coords (point0 (p 0))) (logits V c (point0 (p 0))) (ix3 (0 : Fin 1) (p 1) (0 : Fin 1))

theorem entry_index1 (i : grid0.Coords) : cc0_transform_1 i 0 = (i 0).val := by
  have hi : (i 0).val < 25 := (i 0).isLt
  show (BitVec.ofNat 32 (i 0).val).toNat = _
  rw [BitVec.toNat_ofNat, Nat.mod_eq_of_lt (by omega)]

theorem entry_index2 (i : grid0.Coords) : cc0_transform_2 i 0 = (i 0).val := entry_index1 i

/-- An index of one block of the results is its row. -/
theorem block_index (y : S1x128x1.Idx) : y = ix3 (0 : Fin 1) (y 1) (0 : Fin 1) := by
  funext a
  match a with
  | ⟨0, _⟩ => exact Fin.ext (Nat.lt_one_iff.mp (y 0).isLt)
  | ⟨1, _⟩ => rfl
  | ⟨2, _⟩ => exact Fin.ext (Nat.lt_one_iff.mp (y 2).isLt)

theorem tops_at (c : Dev nD) (t : Fin cfg0.N) (y : S1x128x1.Idx) (p : S25x128x1.Idx) (h0 : (p 0).val = t.val)
    (h1 : (p 1).val = (y 1).val) : topOf (grid0.coords t) (logits V c t) y = tops V c p := by
  have e0 : point0 (p 0) = t := Fin.ext h0
  have e1 : (p 1 : Fin 128) = y 1 := Fin.ext h1
  unfold tops
  rw [e0, e1]
  exact congrArg (topOf (grid0.coords t) (logits V c t)) (block_index y)

theorem wheres_at (c : Dev nD) (t : Fin cfg0.N) (y : S1x128x1.Idx) (p : S25x128x1.Idx) (h0 : (p 0).val = t.val)
    (h1 : (p 1).val = (y 1).val) : whereOf (grid0.coords t) (logits V c t) y = wheres V c p := by
  have e0 : point0 (p 0) = t := Fin.ext h0
  have e1 : (p 1 : Fin 128) = y 1 := Fin.ext h1
  unfold wheres
  rw [e0, e1]
  exact congrArg (whereOf (grid0.coords t) (logits V c t)) (block_index y)

/-- The array of maxima after the pass. -/
theorem arr_tops (c : Dev nD) : (dat0 V c).arrAt 1 cfg0.N = tops V c := by
  refine (dat0 V c).arrAt_eq_of_covers 1 _ (by decide +kernel) fun t _ y => ?_
  refine (congrFun (after0_1 V c t) _).trans (tops_at V c t y _ ?_ ?_)
  · refine (ValueKit.view_emb_slice_whole_unit_val main_call0_v0_0 _ _ _ _ _).trans ?_
    have hy : (y 0).val = 0 := Nat.lt_one_iff.mp (y 0).isLt
    have e : cc0_transform_1 (grid0.coords t) 0 = t.val := (entry_index1 _).trans (coord0 t)
    show cc0_transform_1 (grid0.coords t) 0 * 1 + (y 0).val = t.val
    rw [e, hy, Nat.mul_one, Nat.add_zero]
  · exact (ValueKit.view_emb_slice_whole_unit_val main_call0_v0_0 _ _ _ _ _).trans (Nat.zero_add _)

/-- The array of columns after the pass. -/
theorem arr_wheres (c : Dev nD) : (dat0 V c).arrAt 2 cfg0.N = wheres V c := by
  refine (dat0 V c).arrAt_eq_of_covers 2 _ (by decide +kernel) fun t _ y => ?_
  refine (congrFun (after0_2 V c t) _).trans (wheres_at V c t y _ ?_ ?_)
  · refine (ValueKit.view_emb_slice_whole_unit_val main_call0_v0_1 _ _ _ _ _).trans ?_
    have hy : (y 0).val = 0 := Nat.lt_one_iff.mp (y 0).isLt
    have e : cc0_transform_2 (grid0.coords t) 0 = t.val := (entry_index2 _).trans (coord0 t)
    show cc0_transform_2 (grid0.coords t) 0 * 1 + (y 0).val = t.val
    rw [e, hy, Nat.mul_one, Nat.add_zero]
  · exact (ValueKit.view_emb_slice_whole_unit_val main_call0_v0_1 _ _ _ _ _).trans (Nat.zero_add _)

/-- Entry `n` of the two arrays, for row `r`. -/
theorem best_entry (c : Dev nD) (n : Fin 25) (r : Fin 128) :
    Best (wide (V c main_arg0) r) (n.val * 4096) (n.val * 4096 + 4096) (tops V c (ix3 n r (0 : Fin 1)))
      (wheres V c (ix3 n r (0 : Fin 1))) := best_point V c (point0 n) r

end Cert.KernelIdeal.Gen

end
-- ==== Proof.KernelIdeal.Value.Hot.lean ====
module

public import proofs.«01_k».proof.Proof.KernelIdeal.Value.Rows
public import proofs.«01_k».proof.Proof.KernelIdeal.Second
public import Idealize.ShloMosaic.Lib.Pipeline.ValueKit

/-! # What the second pass computes from the maxima and the columns

For each row it takes the largest of the 25 maxima and the least of the columns whose maximum is that, and stores 1 at
that column and 0 elsewhere. -/

@[expose] public section

set_option maxRecDepth 16384

noncomputable section

namespace Cert.KernelIdeal.Gen

open Idealize.ShloMosaic hiding ix1 ix2 ix3
open Idealize.ShloMosaic.TcCoe Idealize.ShloMosaic.ValueIdx Cert.Draw Cert.Value

theorem lift_entry (r : Fin 128) (n : Fin 25) :
    reduces_S25x128x1_S128x1.lift (ix2 r (0 : Fin 1)) n = ix3 n r (0 : Fin 1) :=
  funext fun a => Fin.ext (by match a with | ⟨0, _⟩ => rfl | ⟨1, _⟩ => rfl | ⟨2, _⟩ => rfl)

/-- The largest of the 25 maxima of each row. -/
def topAll (x : FVec Ideal S25x128x1 .f32) : FVec Ideal S128x1 .f32 :=
  multiReduction .maximumf [0] S128x1 x 0xFF800000#32 reduces_S25x128x1_S128x1 (.inl rfl) rfl

/-- The same at each of the 25 entries. -/
def topSpread (x : FVec Ideal S25x128x1 .f32) : FVec Ideal S25x128x1 .f32 :=
  broadcastTo S25x128x1 (shapeCast S1x128x1 (topAll x) shapeCasts_S128x1_S1x128x1) broadcasts_S1x128x1_S25x128x1

/-- The least column whose maximum is the largest. -/
def least (x : FVec Ideal S25x128x1 .f32) (a : IVec S25x128x1 32) : IVec S128x1 32 :=
  multiReductionI .minsi [0] S128x1 (select (cmpf .oeq x (topSpread x)) a (broadcast S25x128x1 2147483647#32)) 2147483647#32
    reduces_S25x128x1_S128x1 rfl

/-- The columns of block `i` of the result. -/
def colsAt (i : grid1.Coords) : IVec S128x16384 32 :=
  addi (iota .tc S128x16384 32 [1] iota_S128x16384_d1_w32)
    (broadcast S128x16384 (Scalar.muli (BitVec.ofNat 32 (i 0).val) 16384#32))

/-- What is stored: whether a column is the row's, as a number. -/
def hits (i : grid1.Coords) (k : IVec S128x1 32) : FVec Ideal S128x16384 .f32 :=
  sitofp .f32 (extui 32 (cmpi .eq (colsAt i) (broadcastTo S128x16384 k broadcasts_S128x1_S128x16384)) natLt_1_32)

theorem cast_self {α : Type} (x : S25x128x1.Idx → α) : shapeCast S25x128x1 x shapeCasts_S25x128x1_S25x128x1 = x :=
  funext fun p => shapeCast_apply x _ p p rfl

theorem pay1_eq (i : grid1.Coords) (x : FVec Ideal S25x128x1 .f32) (a : IVec S25x128x1 32) :
    k1_pay1 i x a = hits i (least (shapeCast S25x128x1 x shapeCasts_S25x128x1_S25x128x1)
      (shapeCast S25x128x1 a shapeCasts_S25x128x1_S25x128x1)) := rfl

theorem topAll_apply (x : FVec Ideal S25x128x1 .f32) (r : Fin 128) :
    topAll x (ix2 r (0 : Fin 1)) = (Finset.univ : Finset (Fin 25)).fold max ⊥ fun n => x (ix3 n r (0 : Fin 1)) := by
  refine (Ideal.multiReduction_maximumf_single x 0xFF800000#32 reduces_S25x128x1_S128x1 (.inl rfl) rfl
    (ix2 r (0 : Fin 1))).trans ?_
  show Finset.fold max (Ideal.ofBits .f32 0xFF800000#32) (x ∘ reduces_S25x128x1_S128x1.lift (ix2 r (0 : Fin 1))) Finset.univ = _
  rw [bits_neg_inf]
  exact congrArg (fun f : Fin 25 → EReal => Finset.fold max ⊥ f Finset.univ) (funext fun n => congrArg x (lift_entry r n))

theorem entry_cast {α : Type} (x : S128x1.Idx → α) (r : Fin 128) :
    shapeCast S1x128x1 x shapeCasts_S128x1_S1x128x1 (ix3 (0 : Fin 1) r (0 : Fin 1)) = x (ix2 r (0 : Fin 1)) :=
  shapeCast_apply x _ _ _ (by rw [Shape.rowMajor_val_two, Shape.rowMajor_val_three]; simp [ix2, ix3])

theorem topSpread_apply (x : FVec Ideal S25x128x1 .f32) (n : Fin 25) (r : Fin 128) :
    topSpread x (ix3 n r (0 : Fin 1)) = topAll x (ix2 r (0 : Fin 1)) := by
  refine (broadcastTo_apply _ _ _ (ix3 (0 : Fin 1) r (0 : Fin 1)) fun a => ?_).trans (entry_cast _ r)
  match a with | ⟨0, _⟩ => rfl | ⟨1, _⟩ => rfl | ⟨2, _⟩ => rfl

open Classical in
theorem least_apply (x : FVec Ideal S25x128x1 .f32) (a : IVec S25x128x1 32) (r : Fin 128) :
    least x a (ix2 r (0 : Fin 1)) = (Finset.univ : Finset (Fin 25)).fold IntOp.minsi 2147483647#32
      fun n => if x (ix3 n r (0 : Fin 1)) = (Finset.univ : Finset (Fin 25)).fold max ⊥ (fun n => x (ix3 n r (0 : Fin 1)))
        then a (ix3 n r (0 : Fin 1)) else 2147483647#32 := by
  refine (multiReductionI_eq_fold .minsi _ 2147483647#32 reduces_S25x128x1_S128x1 rfl (ix2 r (0 : Fin 1))).trans
    ((reduces_S25x128x1_S128x1.fold_filter_drop_single _ _ _ (ix2 r (0 : Fin 1))).trans ?_)
  refine congrArg (fun f : Fin 25 → BitVec 32 => Finset.fold IntOp.minsi 2147483647#32 f Finset.univ)
    (funext fun (n : Fin 25) => ?_)
  have e (M : FVec Ideal S25x128x1 .f32) (p : S25x128x1.Idx) :
      select (cmpf .oeq x M) a (broadcast S25x128x1 2147483647#32) p = if x p = M p then a p else 2147483647#32 :=
    select_eq (x p) (M p) (a p) 2147483647#32
  refine (congrArg _ (lift_entry r n)).trans ?_
  rw [e, topSpread_apply, topAll_apply]

theorem colsAt_apply (i : grid1.Coords) (r : Fin 128) (q : Fin 16384) :
    colsAt i (ix2 r q) = BitVec.ofNat 32 ((i 0).val * 16384 + q.val) := by
  have e : colsAt i (ix2 r q) = BitVec.ofNat 32 (0 * 16384 + q.val) + BitVec.ofNat 32 (i 0).val * BitVec.ofNat 32 16384 := rfl
  rw [e, ← BitVec.ofNat_mul, ← BitVec.ofNat_add, Nat.zero_mul, Nat.zero_add, Nat.add_comm]

/-- Whether two words are the same, as a number. -/
theorem bit_number (u v : BitVec 32) :
    FloatOps.sitofp (F := Ideal) .f32 (BitVec.setWidth 32 (IntOp.cmpi .eq u v)) = if u = v then (1 : EReal) else 0 := by
  have e : IntOp.cmpi .eq u v = BitVec.ofBool (u == v) := rfl
  have e' (b : BitVec 32) : FloatOps.sitofp (F := Ideal) .f32 b = (((b.toInt : ℝ) : EReal)) := rfl
  rw [e, e']
  by_cases h : u = v
  · rw [if_pos h, h, beq_self_eq_true]
    have e1 : (BitVec.setWidth 32 (BitVec.ofBool true)).toInt = 1 := by decide
    rw [e1]; norm_num
  · rw [if_neg h, beq_false_of_ne h]
    have e1 : (BitVec.setWidth 32 (BitVec.ofBool false)).toInt = 0 := by decide
    rw [e1]; norm_num

theorem hits_apply (i : grid1.Coords) (k : IVec S128x1 32) (r : Fin 128) (q : Fin 16384) :
    hits i k (ix2 r q) = if BitVec.ofNat 32 ((i 0).val * 16384 + q.val) = k (ix2 r (0 : Fin 1)) then (1 : EReal) else 0 := by
  have eb : broadcastTo S128x16384 k broadcasts_S128x1_S128x16384 (ix2 r q) = k (ix2 r (0 : Fin 1)) :=
    broadcastTo_apply k _ _ _ fun a => by match a with | ⟨0, _⟩ => rfl | ⟨1, _⟩ => rfl
  refine (bit_number (colsAt i (ix2 r q)) (broadcastTo S128x16384 k broadcasts_S128x1_S128x16384 (ix2 r q))).trans ?_
  rw [eb, colsAt_apply]

/-- The block of the result at point `i`, element by element. -/
theorem hotOf_apply (i : grid1.Coords) (x : FVec Ideal S25x128x1 .f32) (a : IVec S25x128x1 32) (r : Fin 128) (q : Fin 16384) :
    hotOf (F := Ideal) i x a (ix2 r q)
      = if BitVec.ofNat 32 ((i 0).val * 16384 + q.val) = least x a (ix2 r (0 : Fin 1)) then (1 : EReal) else 0 := by
  have z3 : (![0, 0, 0] : Fin 3 → ℕ) = fun _ => 0 :=
    funext fun a => by match a with | ⟨0, _⟩ => rfl | ⟨1, _⟩ => rfl | ⟨2, _⟩ => rfl
  have z2 : (![0, 0] : Fin 2 → ℕ) = fun _ => 0 := funext fun a => by match a with | ⟨0, _⟩ => rfl | ⟨1, _⟩ => rfl
  unfold hotOf
  rw [View.canon_unit_zero z2, View.ld_unit_zero z3, View.ld_unit_zero z3]
  refine (congrFun (pay1_eq i x a) _).trans ?_
  rw [cast_self, cast_self]
  exact hits_apply i _ r q

open Classical in
/-- Where the 25 entries are the best columns of the 25 stretches of a row, the block holds the one-hot row. -/
theorem hotOf_hot (w : FVec Ideal Sx .f32) (i : grid1.Coords) (x : FVec Ideal S25x128x1 .f32) (a : IVec S25x128x1 32)
    (r : Fin 128) (q : Fin 16384) (hq : (i 0).val * 16384 + q.val < 100000) (hw : ∃ c, z w r c ≠ ⊥)
    (h : ∀ n : Fin 25, Best (wide w r) (n.val * 4096) (n.val * 4096 + 4096) (x (ix3 n r (0 : Fin 1))) (a (ix3 n r (0 : Fin 1)))) :
    hotOf (F := Ideal) i x a (ix2 r q) = hot w (ix2 r ⟨(i 0).val * 16384 + q.val, hq⟩) := by
  have hb := best_blocks (n := 25) (wide w r) (le_refl _) (fun n => x (ix3 n r (0 : Fin 1))) (fun n => a (ix3 n r (0 : Fin 1))) h
  obtain ⟨c, hk, top⟩ := Best.isTop hb hw
  rw [hotOf_apply, least_apply, hk]
  have e : hot w (ix2 r ⟨(i 0).val * 16384 + q.val, hq⟩)
      = if IsTop (z w r) ⟨(i 0).val * 16384 + q.val, hq⟩ then 1 else 0 := rfl
  rw [e]
  by_cases hc : (⟨(i 0).val * 16384 + q.val, hq⟩ : Fin 100000) = c
  · rw [if_pos (congrArg (fun c : Fin 100000 => BitVec.ofNat 32 c.val) hc), if_pos (hc ▸ top)]
  · rw [if_neg ?_, if_neg fun t => hc (t.eq top)]
    intro hh
    refine hc (Fin.ext ?_)
    have hcl := c.isLt
    have hn := congrArg BitVec.toNat hh
    rw [BitVec.toNat_ofNat, BitVec.toNat_ofNat, Nat.mod_eq_of_lt (lt_trans hq (by decide)),
      Nat.mod_eq_of_lt (lt_trans hcl (by decide))] at hn
    exact hn

end Cert.KernelIdeal.Gen

end
-- ==== Proof.KernelIdeal.Value.Final.lean ====
module

public import proofs.«01_k».proof.Proof.KernelIdeal.Value.Arrays
public import proofs.«01_k».proof.Proof.KernelIdeal.Value.Hot
public import proofs.«01_k».proof.Proof.KernelIdeal.Run
public import proofs.«01_k».proof.Proof.Value.Softmax

/-! # What the kernel leaves in the result array

The seven blocks of the second pass cover the 100000 columns, and each holds the one-hot rows' part, so the array ends
up holding the one-hot rows. -/

@[expose] public section

set_option maxRecDepth 16384

noncomputable section

namespace Cert.KernelIdeal.Gen

open Idealize.ShloMosaic hiding ix1 ix2 ix3
open Idealize.ShloMosaic.TcCoe Idealize.ShloMosaic.ValueIdx Idealize.SL.Sem Cert.Draw Cert.Value

/-- The only coordinate of a point of the second pass is its number. -/
theorem coord1 : ∀ t : Fin cfg1.N, (grid1.coords t 0).val = t.val := by decide +kernel

theorem result_index (i : grid1.Coords) : cc1_transform_2 i 1 = (i 0).val := by
  have hi : (i 0).val < 7 := (i 0).isLt
  show (BitVec.ofNat 32 (i 0).val).toNat = _
  rw [BitVec.toNat_ofNat, Nat.mod_eq_of_lt (by omega)]

section
variable (V : (c : Dev nD) → (b : Ref sig .tc) → Buf (Elt Ideal) ((c : Thread nD τ).loc b))

/-- The second pass reads the whole array of maxima at every point, -/
theorem blk1_tops (c : Dev nD) (t : Fin cfg1.N) : blk1 V c 0 t = (V c main_call0_v0_0 : FVec Ideal S25x128x1 .f32) := by
  funext p
  refine congrArg (V c main_call0_v0_0 : FVec Ideal S25x128x1 .f32) (funext fun a => Fin.ext ?_)
  match a with
  | ⟨0, _⟩ => exact (ValueKit.view_emb_slice_whole_unit_val main_call0_v0_0 _ _ _ _ _).trans (Nat.zero_add _)
  | ⟨1, _⟩ => exact (ValueKit.view_emb_slice_whole_unit_val main_call0_v0_0 _ _ _ _ _).trans (Nat.zero_add _)
  | ⟨2, _⟩ => exact (ValueKit.view_emb_slice_whole_unit_val main_call0_v0_0 _ _ _ _ _).trans (Nat.zero_add _)

/-- and the whole array of columns. -/
theorem blk1_wheres (c : Dev nD) (t : Fin cfg1.N) : blk1 V c 1 t = (V c main_call0_v0_1 : IVec S25x128x1 32) := by
  funext p
  refine congrArg (V c main_call0_v0_1 : IVec S25x128x1 32) (funext fun a => Fin.ext ?_)
  match a with
  | ⟨0, _⟩ => exact (ValueKit.view_emb_slice_whole_unit_val main_call0_v0_1 _ _ _ _ _).trans (Nat.zero_add _)
  | ⟨1, _⟩ => exact (ValueKit.view_emb_slice_whole_unit_val main_call0_v0_1 _ _ _ _ _).trans (Nat.zero_add _)
  | ⟨2, _⟩ => exact (ValueKit.view_emb_slice_whole_unit_val main_call0_v0_1 _ _ _ _ _).trans (Nat.zero_add _)

/-- An element of a block of the result is the one-hot rows' element where the block lies. -/
theorem hot_at (w : FVec Ideal Sx .f32) (hw : ∀ r : Fin 128, ∃ c, z w r c ≠ ⊥) (i : grid1.Coords)
    (x : FVec Ideal S25x128x1 .f32) (a : IVec S25x128x1 32)
    (h : ∀ (r : Fin 128) (n : Fin 25), Best (wide w r) (n.val * 4096) (n.val * 4096 + 4096) (x (ix3 n r (0 : Fin 1)))
      (a (ix3 n r (0 : Fin 1))))
    (y : S128x16384.Idx) (p : Sx.Idx) (h0 : (p 0).val = (y 0).val) (h1 : (p 1).val = (i 0).val * 16384 + (y 1).val) :
    hotOf (F := Ideal) i x a y = hot w p := by
  have hq : (i 0).val * 16384 + (y 1).val < 100000 := Nat.lt_of_le_of_lt (Nat.le_of_eq h1.symm) (p 1).isLt
  have ey : y = ix2 (y 0) (y 1) := funext fun b => by match b with | ⟨0, _⟩ => rfl | ⟨1, _⟩ => rfl
  have ep : p = ix2 (y 0) ⟨(i 0).val * 16384 + (y 1).val, hq⟩ := funext fun b => Fin.ext (by
    match b with
    | ⟨0, _⟩ => exact h0
    | ⟨1, _⟩ => exact h1)
  exact (congrArg (hotOf (F := Ideal) i x a) ey).trans
    ((hotOf_hot w i x a (y 0) (y 1) hq (hw (y 0)) (h (y 0))).trans (congrArg (hot w) ep.symm))

/-- The result array after the second pass, from what the two arrays hold. -/
theorem arr_hot (c : Dev nD) (w : FVec Ideal Sx .f32) (hw : ∀ r : Fin 128, ∃ c, z w r c ≠ ⊥)
    (h : ∀ (r : Fin 128) (n : Fin 25), Best (wide w r) (n.val * 4096) (n.val * 4096 + 4096)
      ((V c main_call0_v0_0 : FVec Ideal S25x128x1 .f32) (ix3 n r (0 : Fin 1)))
      ((V c main_call0_v0_1 : IVec S25x128x1 32) (ix3 n r (0 : Fin 1)))) :
    (dat1 V c).arrAt 2 cfg1.N = hot w := by
  refine (dat1 V c).arrAt_eq_of_covers 2 _ (by decide +kernel) fun t _ y => ?_
  refine (congrFun (after1_2 V c t) _).trans ?_
  rw [blk1_tops, blk1_wheres]
  refine hot_at w hw (grid1.coords t) _ _ h _ _ ?_ ?_
  · exact (ValueKit.view_emb_slice_whole_unit_val main_v0 _ _ _ _ _).trans (Nat.zero_add _)
  · refine (ValueKit.view_emb_slice_whole_unit_val main_v0 _ _ _ _ _).trans ?_
    exact congrArg (fun n => n * 16384 + (y 1).val) (result_index (grid1.coords t))

end

variable (m : (ℓ : Loc nD τ sig) → Buf (Elt Ideal) ℓ) (ρ : Dev nD → PrngReg)

/-- The run, for logits the precondition admits: it ends with the one-hot rows in the result array and the argument
unchanged. -/
theorem run_hot (hm : ∀ c : Dev nD, Good (m ((c.tc : Thread nD τ).loc main_arg0))) :
    θ_run defs (onTc (τ := τ) (main (F := Ideal))) ⟨m, fun _ => 0, ρ⟩ (fun r => ∀ c : Dev nD,
      r.2.mem ((c.tc : Thread nD τ).loc main_v0) = hot (m ((c.tc : Thread nD τ).loc main_arg0))
        ∧ r.2.mem ((c.tc : Thread nD τ).loc main_arg0) = m ((c.tc : Thread nD τ).loc main_arg0)) := by
  refine (θ_run defs _ _).mono (fun r h c => ⟨(h.1 c).2.trans ?_, (h.1 c).1⟩) (whole_run m ρ)
  refine arr_hot (V1 m ρ) c _ (fun r => (z_good (hm c) r).2) fun r n => ?_
  have e1 : (V1 m ρ c main_call0_v0_0 : FVec Ideal S25x128x1 .f32) = tops (V0 m ρ) c :=
    (W1_arr m ρ c 1).trans (arr_tops (V0 m ρ) c)
  have e2 : (V1 m ρ c main_call0_v0_1 : IVec S25x128x1 32) = wheres (V0 m ρ) c :=
    (W1_arr m ρ c 2).trans (arr_wheres (V0 m ρ) c)
  rw [e1, e2]
  exact best_entry (V0 m ρ) c n r

end Cert.KernelIdeal.Gen

end
-- ==== Proof.Reference.Ops.lean ====
module

public import proofs.«01_k».proof.Proof.Gen.ReferenceIdeal
public import Idealize.ShloMosaic.Lib.StableHlo.Run
public import Idealize.ShloMosaic.Lib.Pipeline.Frame

@[expose] public section

set_option Elab.async false
set_option maxRecDepth 8192
set_option maxHeartbeats 4000000

/-!
The reference is a line of host operations. They are listed here in the order the program runs them, cut into short
pieces, and the program is shown to be that line.
-/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The larger value of each row, as the function of the four arrays the operation reads. -/
def argTop (x : (⟨S128x100000, .f32⟩ : BufTy).Contents (Elt F)) (y : (⟨S128x100000, .i32⟩ : BufTy).Contents (Elt F))
    (u : (⟨S_, .f32⟩ : BufTy).Contents (Elt F)) (v : (⟨S_, .i32⟩ : BufTy).Contents (Elt F)) : (⟨S128, .f32⟩ : BufTy).Contents (Elt F) :=
  fun j => (Host.argReduce reducer_argmax_f32_i32 x y u v reducesTo_S128x100000_S128_d1 h_S_ j).1

/-- The second part of the fold that keeps the better of two pairs, at any shapes: where the best value stands. -/
def whereBest {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) :
    IVec t 32 :=
  fun j => (Host.argReduce f x y ix iy h hu j).2

/-- Where each row has its largest value, as the function of the four arrays the operation reads. -/
def argWhere (x : (⟨S128x100000, .f32⟩ : BufTy).Contents (Elt F)) (y : (⟨S128x100000, .i32⟩ : BufTy).Contents (Elt F))
    (u : (⟨S_, .f32⟩ : BufTy).Contents (Elt F)) (v : (⟨S_, .i32⟩ : BufTy).Contents (Elt F)) : (⟨S128, .i32⟩ : BufTy).Contents (Elt F) :=
  whereBest reducer_argmax_f32_i32 x y u v reducesTo_S128x100000_S128_d1 h_S_

/-- The function of the operation that writes `main_v6`, by name, so that its operands are plain arguments. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The function of the operation that writes `main_v45`, by name, so that its operands are plain arguments. -/
def fn_main_v45 : (⟨S128x1, .i32⟩ : BufTy).Contents (Elt F) → (⟨S128x1, .i32⟩ : BufTy).Contents (Elt F) → (⟨S128x2, .i32⟩ : BufTy).Contents (Elt F) :=
  (fun a b => concatenate S128x2 1 [⟨S128x1, a⟩, ⟨S128x1, b⟩] concatenates_S128x1_S128x1_S128x2_d1)

/-- @main's operations 1 … 30 of 332 (window `main_part0`). -/
abbrev opsA : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S128x100000, .i64⟩) main_call0_v8) (iotaInDim S128x100000 64 0),
    TRef.nullary (TRef.of (T := ⟨S128x100000, .i64⟩) main_call0_v9) (iotaInDim S128x100000 64 1),
    TRef.nullary (TRef.of (T := ⟨S_, .i64⟩) main_call0_c) (constantI S_ 64 100000#64),
    TRef.unary (TRef.of (T := ⟨S_, .i64⟩) main_call0_c) (TRef.of (T := ⟨S128x100000, .i64⟩) main_call0_v10) (broadcastInDim S128x100000 ![] bcast_S_S128x100000),
    TRef.binary (TRef.of (T := ⟨S128x100000, .i64⟩) main_call0_v10) (TRef.of (T := ⟨S128x100000, .i64⟩) main_call0_v8) (TRef.of (T := ⟨S128x100000, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S128x100000, .i64⟩) main_call0_v12) (broadcastInDim S128x100000 ![] bcast_S_S128x100000),
    TRef.binary (TRef.of (T := ⟨S128x100000, .i64⟩) main_call0_v12) (TRef.of (T := ⟨S128x100000, .i64⟩) main_call0_v9) (TRef.of (T := ⟨S128x100000, .i64⟩) main_call0_v13) muli,
    TRef.binary (TRef.of (T := ⟨S128x100000, .i64⟩) main_call0_v11) (TRef.of (T := ⟨S128x100000, .i64⟩) main_call0_v13) (TRef.of (T := ⟨S128x100000, .i64⟩) main_call0_v14) addi,
    TRef.nullary (TRef.of (T := ⟨S_, .i64⟩) main_call0_c_1) (constantI S_ 64 32#64) ]

/-- @main's operations 31 … 60 of 332 (window `main_part0`). -/
abbrev opsB : List (HloOp τ sig (Elt F)) :=
  [ TRef.unary (TRef.of (T := ⟨S_, .i64⟩) main_call0_c_1) (TRef.of (T := ⟨S128x100000, .i64⟩) main_call0_v15) (broadcastInDim S128x100000 ![] bcast_S_S128x100000),
    TRef.binary (TRef.of (T := ⟨S128x100000, .i64⟩) main_call0_v14) (TRef.of (T := ⟨S128x100000, .i64⟩) main_call0_v15) (TRef.of (T := ⟨S128x100000, .i64⟩) main_call0_v16) Host.shrui,
    TRef.unary (TRef.of (T := ⟨S128x100000, .i64⟩) main_call0_v14) (TRef.of (T := ⟨S128x100000, .i32⟩) main_call0_v17) (trunci 32 · natLt_32_64),
    TRef.unary (TRef.of (T := ⟨S128x100000, .i64⟩) main_call0_v16) (TRef.of (T := ⟨S128x100000, .i32⟩) main_call0_v18) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S128x100000, .i32⟩) main_call0_call0_v2) (broadcastInDim S128x100000 ![] bcast_S_S128x100000),
    TRef.binary (TRef.of (T := ⟨S128x100000, .i32⟩) main_call0_v18) (TRef.of (T := ⟨S128x100000, .i32⟩) main_call0_call0_v2) (TRef.of (T := ⟨S128x100000, .i32⟩) main_call0_call0_v3) addi,
    TRef.unary (TRef.of (T := ⟨S_, .i32⟩) main_call0_v7) (TRef.of (T := ⟨S128x100000, .i32⟩) main_call0_call0_v4) (broadcastInDim S128x100000 ![] bcast_S_S128x100000),
    TRef.binary (TRef.of (T := ⟨S128x100000, .i32⟩) main_call0_v17) (TRef.of (T := ⟨S128x100000, .i32⟩) main_call0_call0_v4) (TRef.of (T := ⟨S128x100000, .i32⟩) main_call0_call0_v5) addi,
    TRef.binary (TRef.of (T := ⟨S128x100000, .i32⟩) main_call0_call0_v3) (TRef.of (T := ⟨S128x100000, .i32⟩) main_call0_call0_v5) (TRef.of (T := ⟨S128x100000, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S128x100000, .i32⟩) main_call0_call0_v7) (broadcastInDim S128x100000 ![] bcast_S_S128x100000),
    TRef.binary (TRef.of (T := ⟨S128x100000, .i32⟩) main_call0_call0_v5) (TRef.of (T := ⟨S128x100000, .i32⟩) main_call0_call0_v7) (TRef.of (T := ⟨S128x100000, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S128x100000, .i32⟩) main_call0_call0_v9) (broadcastInDim S128x100000 ![] bcast_S_S128x100000),
    TRef.binary (TRef.of (T := ⟨S128x100000, .i32⟩) main_call0_call0_v5) (TRef.of (T := ⟨S128x100000, .i32⟩) main_call0_call0_v9) (TRef.of (T := ⟨S128x100000, .i32⟩) main_call0_call0_v10) Host.shrui,
    TRef.binary (TRef.of (T := ⟨S128x100000, .i32⟩) main_call0_call0_v8) (TRef.of (T := ⟨S128x100000, .i32⟩) main_call0_call0_v10) (TRef.of (T := ⟨S128x100000, .i32⟩) main_call0_call0_v11) ori,
    TRef.binary (TRef.of (T := ⟨S128x100000, .i32⟩) main_call0_call0_v6) (TRef.of (T := ⟨S128x100000, .i32⟩) main_call0_call0_v11) (TRef.of (T := ⟨S128x100000, .i32⟩) main_call0_call0_v12) xori,
    TRef.binary (TRef.of (T := ⟨S128x100000, .i32⟩) main_call0_call0_v6) (TRef.of (T := ⟨S128x100000, .i32⟩) main_call0_call0_v12) (TRef.of (T := ⟨S128x100000, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S128x100000, .i32⟩) main_call0_call0_v14) (broadcastInDim S128x100000 ![] bcast_S_S128x100000),
    TRef.binary (TRef.of (T := ⟨S128x100000, .i32⟩) main_call0_call0_v12) (TRef.of (T := ⟨S128x100000, .i32⟩) main_call0_call0_v14) (TRef.of (T := ⟨S128x100000, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S128x100000, .i32⟩) main_call0_call0_v16) (broadcastInDim S128x100000 ![] bcast_S_S128x100000),
    TRef.binary (TRef.of (T := ⟨S128x100000, .i32⟩) main_call0_call0_v12) (TRef.of (T := ⟨S128x100000, .i32⟩) main_call0_call0_v16) (TRef.of (T := ⟨S128x100000, .i32⟩) main_call0_call0_v17) Host.shrui,
    TRef.binary (TRef.of (T := ⟨S128x100000, .i32⟩) main_call0_call0_v15) (TRef.of (T := ⟨S128x100000, .i32⟩) main_call0_call0_v17) (TRef.of (T := ⟨S128x100000, .i32⟩) main_call0_call0_v18) ori,
    TRef.binary (TRef.of (T := ⟨S128x100000, .i32⟩) main_call0_call0_v13) (TRef.of (T := ⟨S128x100000, .i32⟩) main_call0_call0_v18) (TRef.of (T := ⟨S128x100000, .i32⟩) main_call0_call0_v19) xori,
    TRef.binary (TRef.of (T := ⟨S128x100000, .i32⟩) main_call0_call0_v13) (TRef.of (T := ⟨S128x100000, .i32⟩) main_call0_call0_v19) (TRef.of (T := ⟨S128x100000, .i32⟩) main_call0_call0_v20) addi ]

/-- @main's operations 61 … 90 of 332 (window `main_part0`). -/
abbrev opsC : List (HloOp τ sig (Elt F)) :=
  [ TRef.nullary (TRef.of (T := ⟨S_, .i32⟩) main_call0_call0_c_4) (constantI S_ 32 26#32),
    TRef.unary (TRef.of (T := ⟨S_, .i32⟩) main_call0_call0_c_4) (TRef.of (T := ⟨S128x100000, .i32⟩) main_call0_call0_v21) (broadcastInDim S128x100000 ![] bcast_S_S128x100000),
    TRef.binary (TRef.of (T := ⟨S128x100000, .i32⟩) main_call0_call0_v19) (TRef.of (T := ⟨S128x100000, .i32⟩) main_call0_call0_v21) (TRef.of (T := ⟨S128x100000, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S128x100000, .i32⟩) main_call0_call0_v23) (broadcastInDim S128x100000 ![] bcast_S_S128x100000),
    TRef.binary (TRef.of (T := ⟨S128x100000, .i32⟩) main_call0_call0_v19) (TRef.of (T := ⟨S128x100000, .i32⟩) main_call0_call0_v23) (TRef.of (T := ⟨S128x100000, .i32⟩) main_call0_call0_v24) Host.shrui,
    TRef.binary (TRef.of (T := ⟨S128x100000, .i32⟩) main_call0_call0_v22) (TRef.of (T := ⟨S128x100000, .i32⟩) main_call0_call0_v24) (TRef.of (T := ⟨S128x100000, .i32⟩) main_call0_call0_v25) ori,
    TRef.binary (TRef.of (T := ⟨S128x100000, .i32⟩) main_call0_call0_v20) (TRef.of (T := ⟨S128x100000, .i32⟩) main_call0_call0_v25) (TRef.of (T := ⟨S128x100000, .i32⟩) main_call0_call0_v26) xori,
    TRef.binary (TRef.of (T := ⟨S128x100000, .i32⟩) main_call0_call0_v20) (TRef.of (T := ⟨S128x100000, .i32⟩) main_call0_call0_v26) (TRef.of (T := ⟨S128x100000, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S128x100000, .i32⟩) main_call0_call0_v28) (broadcastInDim S128x100000 ![] bcast_S_S128x100000),
    TRef.binary (TRef.of (T := ⟨S128x100000, .i32⟩) main_call0_call0_v26) (TRef.of (T := ⟨S128x100000, .i32⟩) main_call0_call0_v28) (TRef.of (T := ⟨S128x100000, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S128x100000, .i32⟩) main_call0_call0_v30) (broadcastInDim S128x100000 ![] bcast_S_S128x100000),
    TRef.binary (TRef.of (T := ⟨S128x100000, .i32⟩) main_call0_call0_v26) (TRef.of (T := ⟨S128x100000, .i32⟩) main_call0_call0_v30) (TRef.of (T := ⟨S128x100000, .i32⟩) main_call0_call0_v31) Host.shrui,
    TRef.binary (TRef.of (T := ⟨S128x100000, .i32⟩) main_call0_call0_v29) (TRef.of (T := ⟨S128x100000, .i32⟩) main_call0_call0_v31) (TRef.of (T := ⟨S128x100000, .i32⟩) main_call0_call0_v32) ori,
    TRef.binary (TRef.of (T := ⟨S128x100000, .i32⟩) main_call0_call0_v27) (TRef.of (T := ⟨S128x100000, .i32⟩) main_call0_call0_v32) (TRef.of (T := ⟨S128x100000, .i32⟩) main_call0_call0_v33) xori,
    TRef.unary (TRef.of (T := ⟨S_, .i32⟩) main_call0_v7) (TRef.of (T := ⟨S128x100000, .i32⟩) main_call0_call0_v34) (broadcastInDim S128x100000 ![] bcast_S_S128x100000),
    TRef.binary (TRef.of (T := ⟨S128x100000, .i32⟩) main_call0_call0_v27) (TRef.of (T := ⟨S128x100000, .i32⟩) main_call0_call0_v34) (TRef.of (T := ⟨S128x100000, .i32⟩) main_call0_call0_v35) addi,
    TRef.unary (TRef.of (T := ⟨S_, .i32⟩) main_call0_call0_v1) (TRef.of (T := ⟨S128x100000, .i32⟩) main_call0_call0_v36) (broadcastInDim S128x100000 ![] bcast_S_S128x100000),
    TRef.binary (TRef.of (T := ⟨S128x100000, .i32⟩) main_call0_call0_v33) (TRef.of (T := ⟨S128x100000, .i32⟩) main_call0_call0_v36) (TRef.of (T := ⟨S128x100000, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S128x100000, .i32⟩) main_call0_call0_v38) (broadcastInDim S128x100000 ![] bcast_S_S128x100000),
    TRef.binary (TRef.of (T := ⟨S128x100000, .i32⟩) main_call0_call0_v37) (TRef.of (T := ⟨S128x100000, .i32⟩) main_call0_call0_v38) (TRef.of (T := ⟨S128x100000, .i32⟩) main_call0_call0_v39) addi,
    TRef.binary (TRef.of (T := ⟨S128x100000, .i32⟩) main_call0_call0_v35) (TRef.of (T := ⟨S128x100000, .i32⟩) main_call0_call0_v39) (TRef.of (T := ⟨S128x100000, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S128x100000, .i32⟩) main_call0_call0_v41) (broadcastInDim S128x100000 ![] bcast_S_S128x100000),
    TRef.binary (TRef.of (T := ⟨S128x100000, .i32⟩) main_call0_call0_v39) (TRef.of (T := ⟨S128x100000, .i32⟩) main_call0_call0_v41) (TRef.of (T := ⟨S128x100000, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S128x100000, .i32⟩) main_call0_call0_v43) (broadcastInDim S128x100000 ![] bcast_S_S128x100000) ]

/-- @main's operations 91 … 120 of 332 (window `main_part0`). -/
abbrev opsD : List (HloOp τ sig (Elt F)) :=
  [ TRef.binary (TRef.of (T := ⟨S128x100000, .i32⟩) main_call0_call0_v39) (TRef.of (T := ⟨S128x100000, .i32⟩) main_call0_call0_v43) (TRef.of (T := ⟨S128x100000, .i32⟩) main_call0_call0_v44) Host.shrui,
    TRef.binary (TRef.of (T := ⟨S128x100000, .i32⟩) main_call0_call0_v42) (TRef.of (T := ⟨S128x100000, .i32⟩) main_call0_call0_v44) (TRef.of (T := ⟨S128x100000, .i32⟩) main_call0_call0_v45) ori,
    TRef.binary (TRef.of (T := ⟨S128x100000, .i32⟩) main_call0_call0_v40) (TRef.of (T := ⟨S128x100000, .i32⟩) main_call0_call0_v45) (TRef.of (T := ⟨S128x100000, .i32⟩) main_call0_call0_v46) xori,
    TRef.binary (TRef.of (T := ⟨S128x100000, .i32⟩) main_call0_call0_v40) (TRef.of (T := ⟨S128x100000, .i32⟩) main_call0_call0_v46) (TRef.of (T := ⟨S128x100000, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S128x100000, .i32⟩) main_call0_call0_v48) (broadcastInDim S128x100000 ![] bcast_S_S128x100000),
    TRef.binary (TRef.of (T := ⟨S128x100000, .i32⟩) main_call0_call0_v46) (TRef.of (T := ⟨S128x100000, .i32⟩) main_call0_call0_v48) (TRef.of (T := ⟨S128x100000, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S128x100000, .i32⟩) main_call0_call0_v50) (broadcastInDim S128x100000 ![] bcast_S_S128x100000),
    TRef.binary (TRef.of (T := ⟨S128x100000, .i32⟩) main_call0_call0_v46) (TRef.of (T := ⟨S128x100000, .i32⟩) main_call0_call0_v50) (TRef.of (T := ⟨S128x100000, .i32⟩) main_call0_call0_v51) Host.shrui,
    TRef.binary (TRef.of (T := ⟨S128x100000, .i32⟩) main_call0_call0_v49) (TRef.of (T := ⟨S128x100000, .i32⟩) main_call0_call0_v51) (TRef.of (T := ⟨S128x100000, .i32⟩) main_call0_call0_v52) ori,
    TRef.binary (TRef.of (T := ⟨S128x100000, .i32⟩) main_call0_call0_v47) (TRef.of (T := ⟨S128x100000, .i32⟩) main_call0_call0_v52) (TRef.of (T := ⟨S128x100000, .i32⟩) main_call0_call0_v53) xori,
    TRef.binary (TRef.of (T := ⟨S128x100000, .i32⟩) main_call0_call0_v47) (TRef.of (T := ⟨S128x100000, .i32⟩) main_call0_call0_v53) (TRef.of (T := ⟨S128x100000, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S128x100000, .i32⟩) main_call0_call0_v55) (broadcastInDim S128x100000 ![] bcast_S_S128x100000),
    TRef.binary (TRef.of (T := ⟨S128x100000, .i32⟩) main_call0_call0_v53) (TRef.of (T := ⟨S128x100000, .i32⟩) main_call0_call0_v55) (TRef.of (T := ⟨S128x100000, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S128x100000, .i32⟩) main_call0_call0_v57) (broadcastInDim S128x100000 ![] bcast_S_S128x100000),
    TRef.binary (TRef.of (T := ⟨S128x100000, .i32⟩) main_call0_call0_v53) (TRef.of (T := ⟨S128x100000, .i32⟩) main_call0_call0_v57) (TRef.of (T := ⟨S128x100000, .i32⟩) main_call0_call0_v58) Host.shrui,
    TRef.binary (TRef.of (T := ⟨S128x100000, .i32⟩) main_call0_call0_v56) (TRef.of (T := ⟨S128x100000, .i32⟩) main_call0_call0_v58) (TRef.of (T := ⟨S128x100000, .i32⟩) main_call0_call0_v59) ori,
    TRef.binary (TRef.of (T := ⟨S128x100000, .i32⟩) main_call0_call0_v54) (TRef.of (T := ⟨S128x100000, .i32⟩) main_call0_call0_v59) (TRef.of (T := ⟨S128x100000, .i32⟩) main_call0_call0_v60) xori,
    TRef.binary (TRef.of (T := ⟨S128x100000, .i32⟩) main_call0_call0_v54) (TRef.of (T := ⟨S128x100000, .i32⟩) main_call0_call0_v60) (TRef.of (T := ⟨S128x100000, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S128x100000, .i32⟩) main_call0_call0_v62) (broadcastInDim S128x100000 ![] bcast_S_S128x100000),
    TRef.binary (TRef.of (T := ⟨S128x100000, .i32⟩) main_call0_call0_v60) (TRef.of (T := ⟨S128x100000, .i32⟩) main_call0_call0_v62) (TRef.of (T := ⟨S128x100000, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S128x100000, .i32⟩) main_call0_call0_v64) (broadcastInDim S128x100000 ![] bcast_S_S128x100000),
    TRef.binary (TRef.of (T := ⟨S128x100000, .i32⟩) main_call0_call0_v60) (TRef.of (T := ⟨S128x100000, .i32⟩) main_call0_call0_v64) (TRef.of (T := ⟨S128x100000, .i32⟩) main_call0_call0_v65) Host.shrui,
    TRef.binary (TRef.of (T := ⟨S128x100000, .i32⟩) main_call0_call0_v63) (TRef.of (T := ⟨S128x100000, .i32⟩) main_call0_call0_v65) (TRef.of (T := ⟨S128x100000, .i32⟩) main_call0_call0_v66) ori,
    TRef.binary (TRef.of (T := ⟨S128x100000, .i32⟩) main_call0_call0_v61) (TRef.of (T := ⟨S128x100000, .i32⟩) main_call0_call0_v66) (TRef.of (T := ⟨S128x100000, .i32⟩) main_call0_call0_v67) xori ]

/-- @main's operations 121 … 150 of 332 (window `main_part0`). -/
abbrev opsE : List (HloOp τ sig (Elt F)) :=
  [ TRef.unary (TRef.of (T := ⟨S_, .i32⟩) main_call0_call0_v1) (TRef.of (T := ⟨S128x100000, .i32⟩) main_call0_call0_v68) (broadcastInDim S128x100000 ![] bcast_S_S128x100000),
    TRef.binary (TRef.of (T := ⟨S128x100000, .i32⟩) main_call0_call0_v61) (TRef.of (T := ⟨S128x100000, .i32⟩) main_call0_call0_v68) (TRef.of (T := ⟨S128x100000, .i32⟩) main_call0_call0_v69) addi,
    TRef.unary (TRef.of (T := ⟨S_, .i32⟩) main_call0_v5) (TRef.of (T := ⟨S128x100000, .i32⟩) main_call0_call0_v70) (broadcastInDim S128x100000 ![] bcast_S_S128x100000),
    TRef.binary (TRef.of (T := ⟨S128x100000, .i32⟩) main_call0_call0_v67) (TRef.of (T := ⟨S128x100000, .i32⟩) main_call0_call0_v70) (TRef.of (T := ⟨S128x100000, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S128x100000, .i32⟩) main_call0_call0_v72) (broadcastInDim S128x100000 ![] bcast_S_S128x100000),
    TRef.binary (TRef.of (T := ⟨S128x100000, .i32⟩) main_call0_call0_v71) (TRef.of (T := ⟨S128x100000, .i32⟩) main_call0_call0_v72) (TRef.of (T := ⟨S128x100000, .i32⟩) main_call0_call0_v73) addi,
    TRef.binary (TRef.of (T := ⟨S128x100000, .i32⟩) main_call0_call0_v69) (TRef.of (T := ⟨S128x100000, .i32⟩) main_call0_call0_v73) (TRef.of (T := ⟨S128x100000, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S128x100000, .i32⟩) main_call0_call0_v75) (broadcastInDim S128x100000 ![] bcast_S_S128x100000),
    TRef.binary (TRef.of (T := ⟨S128x100000, .i32⟩) main_call0_call0_v73) (TRef.of (T := ⟨S128x100000, .i32⟩) main_call0_call0_v75) (TRef.of (T := ⟨S128x100000, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S128x100000, .i32⟩) main_call0_call0_v77) (broadcastInDim S128x100000 ![] bcast_S_S128x100000),
    TRef.binary (TRef.of (T := ⟨S128x100000, .i32⟩) main_call0_call0_v73) (TRef.of (T := ⟨S128x100000, .i32⟩) main_call0_call0_v77) (TRef.of (T := ⟨S128x100000, .i32⟩) main_call0_call0_v78) Host.shrui,
    TRef.binary (TRef.of (T := ⟨S128x100000, .i32⟩) main_call0_call0_v76) (TRef.of (T := ⟨S128x100000, .i32⟩) main_call0_call0_v78) (TRef.of (T := ⟨S128x100000, .i32⟩) main_call0_call0_v79) ori,
    TRef.binary (TRef.of (T := ⟨S128x100000, .i32⟩) main_call0_call0_v74) (TRef.of (T := ⟨S128x100000, .i32⟩) main_call0_call0_v79) (TRef.of (T := ⟨S128x100000, .i32⟩) main_call0_call0_v80) xori,
    TRef.binary (TRef.of (T := ⟨S128x100000, .i32⟩) main_call0_call0_v74) (TRef.of (T := ⟨S128x100000, .i32⟩) main_call0_call0_v80) (TRef.of (T := ⟨S128x100000, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S128x100000, .i32⟩) main_call0_call0_v82) (broadcastInDim S128x100000 ![] bcast_S_S128x100000),
    TRef.binary (TRef.of (T := ⟨S128x100000, .i32⟩) main_call0_call0_v80) (TRef.of (T := ⟨S128x100000, .i32⟩) main_call0_call0_v82) (TRef.of (T := ⟨S128x100000, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S128x100000, .i32⟩) main_call0_call0_v84) (broadcastInDim S128x100000 ![] bcast_S_S128x100000),
    TRef.binary (TRef.of (T := ⟨S128x100000, .i32⟩) main_call0_call0_v80) (TRef.of (T := ⟨S128x100000, .i32⟩) main_call0_call0_v84) (TRef.of (T := ⟨S128x100000, .i32⟩) main_call0_call0_v85) Host.shrui,
    TRef.binary (TRef.of (T := ⟨S128x100000, .i32⟩) main_call0_call0_v83) (TRef.of (T := ⟨S128x100000, .i32⟩) main_call0_call0_v85) (TRef.of (T := ⟨S128x100000, .i32⟩) main_call0_call0_v86) ori,
    TRef.binary (TRef.of (T := ⟨S128x100000, .i32⟩) main_call0_call0_v81) (TRef.of (T := ⟨S128x100000, .i32⟩) main_call0_call0_v86) (TRef.of (T := ⟨S128x100000, .i32⟩) main_call0_call0_v87) xori,
    TRef.binary (TRef.of (T := ⟨S128x100000, .i32⟩) main_call0_call0_v81) (TRef.of (T := ⟨S128x100000, .i32⟩) main_call0_call0_v87) (TRef.of (T := ⟨S128x100000, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S128x100000, .i32⟩) main_call0_call0_v89) (broadcastInDim S128x100000 ![] bcast_S_S128x100000),
    TRef.binary (TRef.of (T := ⟨S128x100000, .i32⟩) main_call0_call0_v87) (TRef.of (T := ⟨S128x100000, .i32⟩) main_call0_call0_v89) (TRef.of (T := ⟨S128x100000, .i32⟩) main_call0_call0_v90) Host.shli,
    TRef.nullary (TRef.of (T := ⟨S_, .i32⟩) main_call0_call0_c_23) (constantI S_ 32 6#32) ]

/-- @main's operations 151 … 180 of 332 (window `main_part0`). -/
abbrev opsF : List (HloOp τ sig (Elt F)) :=
  [ TRef.unary (TRef.of (T := ⟨S_, .i32⟩) main_call0_call0_c_23) (TRef.of (T := ⟨S128x100000, .i32⟩) main_call0_call0_v91) (broadcastInDim S128x100000 ![] bcast_S_S128x100000),
    TRef.binary (TRef.of (T := ⟨S128x100000, .i32⟩) main_call0_call0_v87) (TRef.of (T := ⟨S128x100000, .i32⟩) main_call0_call0_v91) (TRef.of (T := ⟨S128x100000, .i32⟩) main_call0_call0_v92) Host.shrui,
    TRef.binary (TRef.of (T := ⟨S128x100000, .i32⟩) main_call0_call0_v90) (TRef.of (T := ⟨S128x100000, .i32⟩) main_call0_call0_v92) (TRef.of (T := ⟨S128x100000, .i32⟩) main_call0_call0_v93) ori,
    TRef.binary (TRef.of (T := ⟨S128x100000, .i32⟩) main_call0_call0_v88) (TRef.of (T := ⟨S128x100000, .i32⟩) main_call0_call0_v93) (TRef.of (T := ⟨S128x100000, .i32⟩) main_call0_call0_v94) xori,
    TRef.binary (TRef.of (T := ⟨S128x100000, .i32⟩) main_call0_call0_v88) (TRef.of (T := ⟨S128x100000, .i32⟩) main_call0_call0_v94) (TRef.of (T := ⟨S128x100000, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S128x100000, .i32⟩) main_call0_call0_v96) (broadcastInDim S128x100000 ![] bcast_S_S128x100000),
    TRef.binary (TRef.of (T := ⟨S128x100000, .i32⟩) main_call0_call0_v94) (TRef.of (T := ⟨S128x100000, .i32⟩) main_call0_call0_v96) (TRef.of (T := ⟨S128x100000, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S128x100000, .i32⟩) main_call0_call0_v98) (broadcastInDim S128x100000 ![] bcast_S_S128x100000),
    TRef.binary (TRef.of (T := ⟨S128x100000, .i32⟩) main_call0_call0_v94) (TRef.of (T := ⟨S128x100000, .i32⟩) main_call0_call0_v98) (TRef.of (T := ⟨S128x100000, .i32⟩) main_call0_call0_v99) Host.shrui,
    TRef.binary (TRef.of (T := ⟨S128x100000, .i32⟩) main_call0_call0_v97) (TRef.of (T := ⟨S128x100000, .i32⟩) main_call0_call0_v99) (TRef.of (T := ⟨S128x100000, .i32⟩) main_call0_call0_v100) ori,
    TRef.binary (TRef.of (T := ⟨S128x100000, .i32⟩) main_call0_call0_v95) (TRef.of (T := ⟨S128x100000, .i32⟩) main_call0_call0_v100) (TRef.of (T := ⟨S128x100000, .i32⟩) main_call0_call0_v101) xori,
    TRef.unary (TRef.of (T := ⟨S_, .i32⟩) main_call0_v5) (TRef.of (T := ⟨S128x100000, .i32⟩) main_call0_call0_v102) (broadcastInDim S128x100000 ![] bcast_S_S128x100000),
    TRef.binary (TRef.of (T := ⟨S128x100000, .i32⟩) main_call0_call0_v95) (TRef.of (T := ⟨S128x100000, .i32⟩) main_call0_call0_v102) (TRef.of (T := ⟨S128x100000, .i32⟩) main_call0_call0_v103) addi,
    TRef.unary (TRef.of (T := ⟨S_, .i32⟩) main_call0_v7) (TRef.of (T := ⟨S128x100000, .i32⟩) main_call0_call0_v104) (broadcastInDim S128x100000 ![] bcast_S_S128x100000),
    TRef.binary (TRef.of (T := ⟨S128x100000, .i32⟩) main_call0_call0_v101) (TRef.of (T := ⟨S128x100000, .i32⟩) main_call0_call0_v104) (TRef.of (T := ⟨S128x100000, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S128x100000, .i32⟩) main_call0_call0_v106) (broadcastInDim S128x100000 ![] bcast_S_S128x100000),
    TRef.binary (TRef.of (T := ⟨S128x100000, .i32⟩) main_call0_call0_v105) (TRef.of (T := ⟨S128x100000, .i32⟩) main_call0_call0_v106) (TRef.of (T := ⟨S128x100000, .i32⟩) main_call0_call0_v107) addi,
    TRef.binary (TRef.of (T := ⟨S128x100000, .i32⟩) main_call0_call0_v103) (TRef.of (T := ⟨S128x100000, .i32⟩) main_call0_call0_v107) (TRef.of (T := ⟨S128x100000, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S128x100000, .i32⟩) main_call0_call0_v109) (broadcastInDim S128x100000 ![] bcast_S_S128x100000),
    TRef.binary (TRef.of (T := ⟨S128x100000, .i32⟩) main_call0_call0_v107) (TRef.of (T := ⟨S128x100000, .i32⟩) main_call0_call0_v109) (TRef.of (T := ⟨S128x100000, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S128x100000, .i32⟩) main_call0_call0_v111) (broadcastInDim S128x100000 ![] bcast_S_S128x100000),
    TRef.binary (TRef.of (T := ⟨S128x100000, .i32⟩) main_call0_call0_v107) (TRef.of (T := ⟨S128x100000, .i32⟩) main_call0_call0_v111) (TRef.of (T := ⟨S128x100000, .i32⟩) main_call0_call0_v112) Host.shrui,
    TRef.binary (TRef.of (T := ⟨S128x100000, .i32⟩) main_call0_call0_v110) (TRef.of (T := ⟨S128x100000, .i32⟩) main_call0_call0_v112) (TRef.of (T := ⟨S128x100000, .i32⟩) main_call0_call0_v113) ori,
    TRef.binary (TRef.of (T := ⟨S128x100000, .i32⟩) main_call0_call0_v108) (TRef.of (T := ⟨S128x100000, .i32⟩) main_call0_call0_v113) (TRef.of (T := ⟨S128x100000, .i32⟩) main_call0_call0_v114) xori,
    TRef.binary (TRef.of (T := ⟨S128x100000, .i32⟩) main_call0_call0_v108) (TRef.of (T := ⟨S128x100000, .i32⟩) main_call0_call0_v114) (TRef.of (T := ⟨S128x100000, .i32⟩) main_call0_call0_v115) addi ]

/-- @main's operations 181 … 210 of 332 (window `main_part0`). -/
abbrev opsG : List (HloOp τ sig (Elt F)) :=
  [ TRef.nullary (TRef.of (T := ⟨S_, .i32⟩) main_call0_call0_c_29) (constantI S_ 32 29#32),
    TRef.unary (TRef.of (T := ⟨S_, .i32⟩) main_call0_call0_c_29) (TRef.of (T := ⟨S128x100000, .i32⟩) main_call0_call0_v116) (broadcastInDim S128x100000 ![] bcast_S_S128x100000),
    TRef.binary (TRef.of (T := ⟨S128x100000, .i32⟩) main_call0_call0_v114) (TRef.of (T := ⟨S128x100000, .i32⟩) main_call0_call0_v116) (TRef.of (T := ⟨S128x100000, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S128x100000, .i32⟩) main_call0_call0_v118) (broadcastInDim S128x100000 ![] bcast_S_S128x100000),
    TRef.binary (TRef.of (T := ⟨S128x100000, .i32⟩) main_call0_call0_v114) (TRef.of (T := ⟨S128x100000, .i32⟩) main_call0_call0_v118) (TRef.of (T := ⟨S128x100000, .i32⟩) main_call0_call0_v119) Host.shrui,
    TRef.binary (TRef.of (T := ⟨S128x100000, .i32⟩) main_call0_call0_v117) (TRef.of (T := ⟨S128x100000, .i32⟩) main_call0_call0_v119) (TRef.of (T := ⟨S128x100000, .i32⟩) main_call0_call0_v120) ori,
    TRef.binary (TRef.of (T := ⟨S128x100000, .i32⟩) main_call0_call0_v115) (TRef.of (T := ⟨S128x100000, .i32⟩) main_call0_call0_v120) (TRef.of (T := ⟨S128x100000, .i32⟩) main_call0_call0_v121) xori,
    TRef.binary (TRef.of (T := ⟨S128x100000, .i32⟩) main_call0_call0_v115) (TRef.of (T := ⟨S128x100000, .i32⟩) main_call0_call0_v121) (TRef.of (T := ⟨S128x100000, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S128x100000, .i32⟩) main_call0_call0_v123) (broadcastInDim S128x100000 ![] bcast_S_S128x100000),
    TRef.binary (TRef.of (T := ⟨S128x100000, .i32⟩) main_call0_call0_v121) (TRef.of (T := ⟨S128x100000, .i32⟩) main_call0_call0_v123) (TRef.of (T := ⟨S128x100000, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S128x100000, .i32⟩) main_call0_call0_v125) (broadcastInDim S128x100000 ![] bcast_S_S128x100000),
    TRef.binary (TRef.of (T := ⟨S128x100000, .i32⟩) main_call0_call0_v121) (TRef.of (T := ⟨S128x100000, .i32⟩) main_call0_call0_v125) (TRef.of (T := ⟨S128x100000, .i32⟩) main_call0_call0_v126) Host.shrui,
    TRef.binary (TRef.of (T := ⟨S128x100000, .i32⟩) main_call0_call0_v124) (TRef.of (T := ⟨S128x100000, .i32⟩) main_call0_call0_v126) (TRef.of (T := ⟨S128x100000, .i32⟩) main_call0_call0_v127) ori,
    TRef.binary (TRef.of (T := ⟨S128x100000, .i32⟩) main_call0_call0_v122) (TRef.of (T := ⟨S128x100000, .i32⟩) main_call0_call0_v127) (TRef.of (T := ⟨S128x100000, .i32⟩) main_call0_call0_v128) xori,
    TRef.binary (TRef.of (T := ⟨S128x100000, .i32⟩) main_call0_call0_v122) (TRef.of (T := ⟨S128x100000, .i32⟩) main_call0_call0_v128) (TRef.of (T := ⟨S128x100000, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S128x100000, .i32⟩) main_call0_call0_v130) (broadcastInDim S128x100000 ![] bcast_S_S128x100000),
    TRef.binary (TRef.of (T := ⟨S128x100000, .i32⟩) main_call0_call0_v128) (TRef.of (T := ⟨S128x100000, .i32⟩) main_call0_call0_v130) (TRef.of (T := ⟨S128x100000, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S128x100000, .i32⟩) main_call0_call0_v132) (broadcastInDim S128x100000 ![] bcast_S_S128x100000),
    TRef.binary (TRef.of (T := ⟨S128x100000, .i32⟩) main_call0_call0_v128) (TRef.of (T := ⟨S128x100000, .i32⟩) main_call0_call0_v132) (TRef.of (T := ⟨S128x100000, .i32⟩) main_call0_call0_v133) Host.shrui,
    TRef.binary (TRef.of (T := ⟨S128x100000, .i32⟩) main_call0_call0_v131) (TRef.of (T := ⟨S128x100000, .i32⟩) main_call0_call0_v133) (TRef.of (T := ⟨S128x100000, .i32⟩) main_call0_call0_v134) ori,
    TRef.binary (TRef.of (T := ⟨S128x100000, .i32⟩) main_call0_call0_v129) (TRef.of (T := ⟨S128x100000, .i32⟩) main_call0_call0_v134) (TRef.of (T := ⟨S128x100000, .i32⟩) main_call0_call0_v135) xori,
    TRef.unary (TRef.of (T := ⟨S_, .i32⟩) main_call0_v7) (TRef.of (T := ⟨S128x100000, .i32⟩) main_call0_call0_v136) (broadcastInDim S128x100000 ![] bcast_S_S128x100000),
    TRef.binary (TRef.of (T := ⟨S128x100000, .i32⟩) main_call0_call0_v129) (TRef.of (T := ⟨S128x100000, .i32⟩) main_call0_call0_v136) (TRef.of (T := ⟨S128x100000, .i32⟩) main_call0_call0_v137) addi,
    TRef.unary (TRef.of (T := ⟨S_, .i32⟩) main_call0_call0_v1) (TRef.of (T := ⟨S128x100000, .i32⟩) main_call0_call0_v138) (broadcastInDim S128x100000 ![] bcast_S_S128x100000),
    TRef.binary (TRef.of (T := ⟨S128x100000, .i32⟩) main_call0_call0_v135) (TRef.of (T := ⟨S128x100000, .i32⟩) main_call0_call0_v138) (TRef.of (T := ⟨S128x100000, .i32⟩) main_call0_call0_v139) addi ]

/-- @main's operations 211 … 240 of 332 (window `main_part0`). -/
abbrev opsH : List (HloOp τ sig (Elt F)) :=
  [ TRef.nullary (TRef.of (T := ⟨S_, .i32⟩) main_call0_call0_c_35) (constantI S_ 32 4#32),
    TRef.unary (TRef.of (T := ⟨S_, .i32⟩) main_call0_call0_c_35) (TRef.of (T := ⟨S128x100000, .i32⟩) main_call0_call0_v140) (broadcastInDim S128x100000 ![] bcast_S_S128x100000),
    TRef.binary (TRef.of (T := ⟨S128x100000, .i32⟩) main_call0_call0_v139) (TRef.of (T := ⟨S128x100000, .i32⟩) main_call0_call0_v140) (TRef.of (T := ⟨S128x100000, .i32⟩) main_call0_call0_v141) addi,
    TRef.binary (TRef.of (T := ⟨S128x100000, .i32⟩) main_call0_call0_v137) (TRef.of (T := ⟨S128x100000, .i32⟩) main_call0_call0_v141) (TRef.of (T := ⟨S128x100000, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S128x100000, .i32⟩) main_call0_call0_v143) (broadcastInDim S128x100000 ![] bcast_S_S128x100000),
    TRef.binary (TRef.of (T := ⟨S128x100000, .i32⟩) main_call0_call0_v141) (TRef.of (T := ⟨S128x100000, .i32⟩) main_call0_call0_v143) (TRef.of (T := ⟨S128x100000, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S128x100000, .i32⟩) main_call0_call0_v145) (broadcastInDim S128x100000 ![] bcast_S_S128x100000),
    TRef.binary (TRef.of (T := ⟨S128x100000, .i32⟩) main_call0_call0_v141) (TRef.of (T := ⟨S128x100000, .i32⟩) main_call0_call0_v145) (TRef.of (T := ⟨S128x100000, .i32⟩) main_call0_call0_v146) Host.shrui,
    TRef.binary (TRef.of (T := ⟨S128x100000, .i32⟩) main_call0_call0_v144) (TRef.of (T := ⟨S128x100000, .i32⟩) main_call0_call0_v146) (TRef.of (T := ⟨S128x100000, .i32⟩) main_call0_call0_v147) ori,
    TRef.binary (TRef.of (T := ⟨S128x100000, .i32⟩) main_call0_call0_v142) (TRef.of (T := ⟨S128x100000, .i32⟩) main_call0_call0_v147) (TRef.of (T := ⟨S128x100000, .i32⟩) main_call0_call0_v148) xori,
    TRef.binary (TRef.of (T := ⟨S128x100000, .i32⟩) main_call0_call0_v142) (TRef.of (T := ⟨S128x100000, .i32⟩) main_call0_call0_v148) (TRef.of (T := ⟨S128x100000, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S128x100000, .i32⟩) main_call0_call0_v150) (broadcastInDim S128x100000 ![] bcast_S_S128x100000),
    TRef.binary (TRef.of (T := ⟨S128x100000, .i32⟩) main_call0_call0_v148) (TRef.of (T := ⟨S128x100000, .i32⟩) main_call0_call0_v150) (TRef.of (T := ⟨S128x100000, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S128x100000, .i32⟩) main_call0_call0_v152) (broadcastInDim S128x100000 ![] bcast_S_S128x100000),
    TRef.binary (TRef.of (T := ⟨S128x100000, .i32⟩) main_call0_call0_v148) (TRef.of (T := ⟨S128x100000, .i32⟩) main_call0_call0_v152) (TRef.of (T := ⟨S128x100000, .i32⟩) main_call0_call0_v153) Host.shrui,
    TRef.binary (TRef.of (T := ⟨S128x100000, .i32⟩) main_call0_call0_v151) (TRef.of (T := ⟨S128x100000, .i32⟩) main_call0_call0_v153) (TRef.of (T := ⟨S128x100000, .i32⟩) main_call0_call0_v154) ori,
    TRef.binary (TRef.of (T := ⟨S128x100000, .i32⟩) main_call0_call0_v149) (TRef.of (T := ⟨S128x100000, .i32⟩) main_call0_call0_v154) (TRef.of (T := ⟨S128x100000, .i32⟩) main_call0_call0_v155) xori,
    TRef.binary (TRef.of (T := ⟨S128x100000, .i32⟩) main_call0_call0_v149) (TRef.of (T := ⟨S128x100000, .i32⟩) main_call0_call0_v155) (TRef.of (T := ⟨S128x100000, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S128x100000, .i32⟩) main_call0_call0_v157) (broadcastInDim S128x100000 ![] bcast_S_S128x100000),
    TRef.binary (TRef.of (T := ⟨S128x100000, .i32⟩) main_call0_call0_v155) (TRef.of (T := ⟨S128x100000, .i32⟩) main_call0_call0_v157) (TRef.of (T := ⟨S128x100000, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S128x100000, .i32⟩) main_call0_call0_v159) (broadcastInDim S128x100000 ![] bcast_S_S128x100000),
    TRef.binary (TRef.of (T := ⟨S128x100000, .i32⟩) main_call0_call0_v155) (TRef.of (T := ⟨S128x100000, .i32⟩) main_call0_call0_v159) (TRef.of (T := ⟨S128x100000, .i32⟩) main_call0_call0_v160) Host.shrui,
    TRef.binary (TRef.of (T := ⟨S128x100000, .i32⟩) main_call0_call0_v158) (TRef.of (T := ⟨S128x100000, .i32⟩) main_call0_call0_v160) (TRef.of (T := ⟨S128x100000, .i32⟩) main_call0_call0_v161) ori,
    TRef.binary (TRef.of (T := ⟨S128x100000, .i32⟩) main_call0_call0_v156) (TRef.of (T := ⟨S128x100000, .i32⟩) main_call0_call0_v161) (TRef.of (T := ⟨S128x100000, .i32⟩) main_call0_call0_v162) xori ]

/-- @main's operations 241 … 270 of 332 (window `main_part0`). -/
abbrev opsI : List (HloOp τ sig (Elt F)) :=
  [ TRef.binary (TRef.of (T := ⟨S128x100000, .i32⟩) main_call0_call0_v156) (TRef.of (T := ⟨S128x100000, .i32⟩) main_call0_call0_v162) (TRef.of (T := ⟨S128x100000, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S128x100000, .i32⟩) main_call0_call0_v164) (broadcastInDim S128x100000 ![] bcast_S_S128x100000),
    TRef.binary (TRef.of (T := ⟨S128x100000, .i32⟩) main_call0_call0_v162) (TRef.of (T := ⟨S128x100000, .i32⟩) main_call0_call0_v164) (TRef.of (T := ⟨S128x100000, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S128x100000, .i32⟩) main_call0_call0_v166) (broadcastInDim S128x100000 ![] bcast_S_S128x100000),
    TRef.binary (TRef.of (T := ⟨S128x100000, .i32⟩) main_call0_call0_v162) (TRef.of (T := ⟨S128x100000, .i32⟩) main_call0_call0_v166) (TRef.of (T := ⟨S128x100000, .i32⟩) main_call0_call0_v167) Host.shrui,
    TRef.binary (TRef.of (T := ⟨S128x100000, .i32⟩) main_call0_call0_v165) (TRef.of (T := ⟨S128x100000, .i32⟩) main_call0_call0_v167) (TRef.of (T := ⟨S128x100000, .i32⟩) main_call0_call0_v168) ori,
    TRef.binary (TRef.of (T := ⟨S128x100000, .i32⟩) main_call0_call0_v163) (TRef.of (T := ⟨S128x100000, .i32⟩) main_call0_call0_v168) (TRef.of (T := ⟨S128x100000, .i32⟩) main_call0_call0_v169) xori,
    TRef.unary (TRef.of (T := ⟨S_, .i32⟩) main_call0_call0_v1) (TRef.of (T := ⟨S128x100000, .i32⟩) main_call0_call0_v170) (broadcastInDim S128x100000 ![] bcast_S_S128x100000),
    TRef.binary (TRef.of (T := ⟨S128x100000, .i32⟩) main_call0_call0_v163) (TRef.of (T := ⟨S128x100000, .i32⟩) main_call0_call0_v170) (TRef.of (T := ⟨S128x100000, .i32⟩) main_call0_v19_0) addi,
    TRef.unary (TRef.of (T := ⟨S_, .i32⟩) main_call0_v5) (TRef.of (T := ⟨S128x100000, .i32⟩) main_call0_call0_v172) (broadcastInDim S128x100000 ![] bcast_S_S128x100000),
    TRef.binary (TRef.of (T := ⟨S128x100000, .i32⟩) main_call0_call0_v169) (TRef.of (T := ⟨S128x100000, .i32⟩) main_call0_call0_v172) (TRef.of (T := ⟨S128x100000, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S128x100000, .i32⟩) main_call0_call0_v174) (broadcastInDim S128x100000 ![] bcast_S_S128x100000),
    TRef.binary (TRef.of (T := ⟨S128x100000, .i32⟩) main_call0_call0_v173) (TRef.of (T := ⟨S128x100000, .i32⟩) main_call0_call0_v174) (TRef.of (T := ⟨S128x100000, .i32⟩) main_call0_v19_1) addi,
    TRef.binary (TRef.of (T := ⟨S128x100000, .i32⟩) main_call0_v19_0) (TRef.of (T := ⟨S128x100000, .i32⟩) main_call0_v19_1) (TRef.of (T := ⟨S128x100000, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S128x100000, .i32⟩) main_call0_v21) (broadcastInDim S128x100000 ![] bcast_S_S128x100000),
    TRef.binary (TRef.of (T := ⟨S128x100000, .i32⟩) main_call0_v20) (TRef.of (T := ⟨S128x100000, .i32⟩) main_call0_v21) (TRef.of (T := ⟨S128x100000, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S128x100000, .i32⟩) main_call0_v23) (broadcastInDim S128x100000 ![] bcast_S_S128x100000),
    TRef.binary (TRef.of (T := ⟨S128x100000, .i32⟩) main_call0_v22) (TRef.of (T := ⟨S128x100000, .i32⟩) main_call0_v23) (TRef.of (T := ⟨S128x100000, .i32⟩) main_call0_v24) ori,
    TRef.unary (TRef.of (T := ⟨S128x100000, .i32⟩) main_call0_v24) (TRef.of (T := ⟨S128x100000, .f32⟩) main_call0_v25) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S128x100000, .f32⟩) main_call0_v26) (broadcastInDim S128x100000 ![] bcast_S_S128x100000),
    TRef.binary (TRef.of (T := ⟨S128x100000, .f32⟩) main_call0_v25) (TRef.of (T := ⟨S128x100000, .f32⟩) main_call0_v26) (TRef.of (T := ⟨S128x100000, .f32⟩) main_call0_v27) subf,
    TRef.binary (TRef.of (T := ⟨S1x1, .f32⟩) main_call0_v3) (TRef.of (T := ⟨S1x1, .f32⟩) main_call0_v2) (TRef.of (T := ⟨S1x1, .f32⟩) main_call0_v28) subf,
    TRef.unary (TRef.of (T := ⟨S1x1, .f32⟩) main_call0_v28) (TRef.of (T := ⟨S128x100000, .f32⟩) main_call0_v29) (broadcastInDim S128x100000 ![0, 1] bcast_S1x1_S128x100000_0_1),
    TRef.binary (TRef.of (T := ⟨S128x100000, .f32⟩) main_call0_v27) (TRef.of (T := ⟨S128x100000, .f32⟩) main_call0_v29) (TRef.of (T := ⟨S128x100000, .f32⟩) main_call0_v30) mulf ]

/-- @main's operations 271 … 300 of 332 (window `main_part0`). -/
abbrev opsJ : List (HloOp τ sig (Elt F)) :=
  [ TRef.unary (TRef.of (T := ⟨S1x1, .f32⟩) main_call0_v2) (TRef.of (T := ⟨S128x100000, .f32⟩) main_call0_v31) (broadcastInDim S128x100000 ![0, 1] bcast_S1x1_S128x100000_0_1),
    TRef.binary (TRef.of (T := ⟨S128x100000, .f32⟩) main_call0_v30) (TRef.of (T := ⟨S128x100000, .f32⟩) main_call0_v31) (TRef.of (T := ⟨S128x100000, .f32⟩) main_call0_v32) addf,
    TRef.unary (TRef.of (T := ⟨S1x1, .f32⟩) main_call0_v2) (TRef.of (T := ⟨S128x100000, .f32⟩) main_call0_v33) (broadcastInDim S128x100000 ![0, 1] bcast_S1x1_S128x100000_0_1),
    TRef.binary (TRef.of (T := ⟨S128x100000, .f32⟩) main_call0_v33) (TRef.of (T := ⟨S128x100000, .f32⟩) main_call0_v32) (TRef.of (T := ⟨S128x100000, .f32⟩) main_v7) maximumf,
    nullary main_cst_3 (constant S_ .f32 0x1E3CE508#32),
    unary main_cst_3 main_v8 (broadcastInDim S128x100000 ![] bcast_S_S128x100000 : (⟨S_, .f32⟩ : BufTy).Contents (Elt F) → (⟨S128x100000, .f32⟩ : BufTy).Contents (Elt F)),
    binary main_v7 main_v8 main_v9 (addf : (⟨S128x100000, .f32⟩ : BufTy).Contents (Elt F) → (⟨S128x100000, .f32⟩ : BufTy).Contents (Elt F) → (⟨S128x100000, .f32⟩ : BufTy).Contents (Elt F)),
    unary main_v9 main_v10 (Host.log : (⟨S128x100000, .f32⟩ : BufTy).Contents (Elt F) → (⟨S128x100000, .f32⟩ : BufTy).Contents (Elt F)),
    unary main_v10 main_v11 (Host.negf : (⟨S128x100000, .f32⟩ : BufTy).Contents (Elt F) → (⟨S128x100000, .f32⟩ : BufTy).Contents (Elt F)),
    nullary main_cst_4 (constant S_ .f32 0x1E3CE508#32),
    unary main_cst_4 main_v12 (broadcastInDim S128x100000 ![] bcast_S_S128x100000 : (⟨S_, .f32⟩ : BufTy).Contents (Elt F) → (⟨S128x100000, .f32⟩ : BufTy).Contents (Elt F)),
    binary main_v11 main_v12 main_v13 (addf : (⟨S128x100000, .f32⟩ : BufTy).Contents (Elt F) → (⟨S128x100000, .f32⟩ : BufTy).Contents (Elt F) → (⟨S128x100000, .f32⟩ : BufTy).Contents (Elt F)),
    unary main_v13 main_v14 (Host.log : (⟨S128x100000, .f32⟩ : BufTy).Contents (Elt F) → (⟨S128x100000, .f32⟩ : BufTy).Contents (Elt F)),
    unary main_v14 main_v15 (Host.negf : (⟨S128x100000, .f32⟩ : BufTy).Contents (Elt F) → (⟨S128x100000, .f32⟩ : BufTy).Contents (Elt F)),
    binary main_arg0 main_v15 main_v16 (addf : (⟨S128x100000, .f32⟩ : BufTy).Contents (Elt F) → (⟨S128x100000, .f32⟩ : BufTy).Contents (Elt F) → (⟨S128x100000, .f32⟩ : BufTy).Contents (Elt F)),
    nullary main_cst_5 (constant S_ .f32 0x3F800000#32),
    unary main_cst_5 main_v17 (broadcastInDim S128x100000 ![] bcast_S_S128x100000 : (⟨S_, .f32⟩ : BufTy).Contents (Elt F) → (⟨S128x100000, .f32⟩ : BufTy).Contents (Elt F)),
    binary main_v16 main_v17 main_v18 (Host.divf : (⟨S128x100000, .f32⟩ : BufTy).Contents (Elt F) → (⟨S128x100000, .f32⟩ : BufTy).Contents (Elt F) → (⟨S128x100000, .f32⟩ : BufTy).Contents (Elt F)),
    nullary main_cst_6 (constant S_ .f32 0xFF800000#32),
    binary main_v18 main_cst_6 main_v19 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_7 (constant S_ .f32 0xFF800000#32),
    unary main_cst_7 main_v20 (broadcastInDim S128 ![] bcast_S_S128 : (⟨S_, .f32⟩ : BufTy).Contents (Elt F) → (⟨S128, .f32⟩ : BufTy).Contents (Elt F)),
    binary main_v20 main_v19 main_v21 (maximumf : (⟨S128, .f32⟩ : BufTy).Contents (Elt F) → (⟨S128, .f32⟩ : BufTy).Contents (Elt F) → (⟨S128, .f32⟩ : BufTy).Contents (Elt F)),
    unary main_v21 main_v22 (broadcastInDim S128x1 ![0] bcast_S128_S128x1_0 : (⟨S128, .f32⟩ : BufTy).Contents (Elt F) → (⟨S128x1, .f32⟩ : BufTy).Contents (Elt F)),
    unary main_v22 main_v23 (broadcastInDim S128x100000 ![0, 1] bcast_S128x1_S128x100000_0_1 : (⟨S128x1, .f32⟩ : BufTy).Contents (Elt F) → (⟨S128x100000, .f32⟩ : BufTy).Contents (Elt F)),
    binary main_v18 main_v23 main_v24 (subf : (⟨S128x100000, .f32⟩ : BufTy).Contents (Elt F) → (⟨S128x100000, .f32⟩ : BufTy).Contents (Elt F) → (⟨S128x100000, .f32⟩ : BufTy).Contents (Elt F)),
    unary main_v24 main_v25 (Host.exp : (⟨S128x100000, .f32⟩ : BufTy).Contents (Elt F) → (⟨S128x100000, .f32⟩ : BufTy).Contents (Elt F)),
    nullary main_cst_8 (constant S_ .f32 0x00000000#32),
    binary main_v25 main_cst_8 main_v26 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v26 main_v27 (broadcastInDim S128x1 ![0] bcast_S128_S128x1_0 : (⟨S128, .f32⟩ : BufTy).Contents (Elt F) → (⟨S128x1, .f32⟩ : BufTy).Contents (Elt F)) ]

/-- @main's operations 301 … 325 of 332 (window `main_part0`). -/
abbrev opsK : List (HloOp τ sig (Elt F)) :=
  [ unary main_v27 main_v28 (broadcastInDim S128x100000 ![0, 1] bcast_S128x1_S128x100000_0_1 : (⟨S128x1, .f32⟩ : BufTy).Contents (Elt F) → (⟨S128x100000, .f32⟩ : BufTy).Contents (Elt F)),
    binary main_v25 main_v28 main_v29 (Host.divf : (⟨S128x100000, .f32⟩ : BufTy).Contents (Elt F) → (⟨S128x100000, .f32⟩ : BufTy).Contents (Elt F) → (⟨S128x100000, .f32⟩ : BufTy).Contents (Elt F)),
    TRef.nullary (TRef.of (T := ⟨S128x100000, .i32⟩) main_call1_v0) (iotaInDim S128x100000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S128x100000, .f32⟩) main_v29) (TRef.of (T := ⟨S128x100000, .i32⟩) main_call1_v0) (TRef.of (T := ⟨S_, .f32⟩) main_call1_cst) (TRef.of (T := ⟨S_, .i32⟩) main_call1_c) (TRef.of (T := ⟨S128, .f32⟩) main_call1_v1_0) argTop,
    TRef.quaternary (TRef.of (T := ⟨S128x100000, .f32⟩) main_v29) (TRef.of (T := ⟨S128x100000, .i32⟩) main_call1_v0) (TRef.of (T := ⟨S_, .f32⟩) main_call1_cst) (TRef.of (T := ⟨S_, .i32⟩) main_call1_c) (TRef.of (T := ⟨S128, .i32⟩) main_v30) argWhere,
    nullary main_v31 (iotaInDim S128 32 0),
    nullary main_cst_9 (constant S_ .f32 0x00000000#32),
    unary main_cst_9 main_v32 (broadcastInDim S128x100000 ![] bcast_S_S128x100000 : (⟨S_, .f32⟩ : BufTy).Contents (Elt F) → (⟨S128x100000, .f32⟩ : BufTy).Contents (Elt F)),
    nullary main_c_10 (constantI S_ 32 0#32),
    unary main_c_10 main_v33 (broadcastInDim S128 ![] bcast_S_S128 : (⟨S_, .i32⟩ : BufTy).Contents (Elt F) → (⟨S128, .i32⟩ : BufTy).Contents (Elt F)),
    binary main_v31 main_v33 main_v34 (cmpi .slt : (⟨S128, .i32⟩ : BufTy).Contents (Elt F) → (⟨S128, .i32⟩ : BufTy).Contents (Elt F) → (⟨S128, .i1⟩ : BufTy).Contents (Elt F)),
    nullary main_c_11 (constantI S_ 32 128#32),
    unary main_c_11 main_v35 (broadcastInDim S128 ![] bcast_S_S128 : (⟨S_, .i32⟩ : BufTy).Contents (Elt F) → (⟨S128, .i32⟩ : BufTy).Contents (Elt F)),
    binary main_v31 main_v35 main_v36 (addi : (⟨S128, .i32⟩ : BufTy).Contents (Elt F) → (⟨S128, .i32⟩ : BufTy).Contents (Elt F) → (⟨S128, .i32⟩ : BufTy).Contents (Elt F)),
    ternary main_v34 main_v36 main_v31 main_v37 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    nullary main_c_12 (constantI S_ 32 0#32),
    unary main_c_12 main_v38 (broadcastInDim S128 ![] bcast_S_S128 : (⟨S_, .i32⟩ : BufTy).Contents (Elt F) → (⟨S128, .i32⟩ : BufTy).Contents (Elt F)),
    binary main_v30 main_v38 main_v39 (cmpi .slt : (⟨S128, .i32⟩ : BufTy).Contents (Elt F) → (⟨S128, .i32⟩ : BufTy).Contents (Elt F) → (⟨S128, .i1⟩ : BufTy).Contents (Elt F)),
    nullary main_c_13 (constantI S_ 32 100000#32),
    unary main_c_13 main_v40 (broadcastInDim S128 ![] bcast_S_S128 : (⟨S_, .i32⟩ : BufTy).Contents (Elt F) → (⟨S128, .i32⟩ : BufTy).Contents (Elt F)),
    binary main_v30 main_v40 main_v41 (addi : (⟨S128, .i32⟩ : BufTy).Contents (Elt F) → (⟨S128, .i32⟩ : BufTy).Contents (Elt F) → (⟨S128, .i32⟩ : BufTy).Contents (Elt F)),
    ternary main_v39 main_v41 main_v30 main_v42 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v37 main_v43 (broadcastInDim S128x1 ![0] bcast_S128_S128x1_0 : (⟨S128, .i32⟩ : BufTy).Contents (Elt F) → (⟨S128x1, .i32⟩ : BufTy).Contents (Elt F)) ]

/-- Window `main_part0`'s operations. Not an abbreviation: `main_eq` below splits `ops` into the windows and no further. -/
def opsBody : List (HloOp τ sig (Elt F)) :=
  opsA ++ (opsB ++ (opsC ++ (opsD ++ (opsE ++ (opsF ++ (opsG ++ (opsH ++ (opsI ++ (opsJ ++ (opsK))))))))))

/-- @main's operations 326 … 332 of 332 (window `main_part1`). -/
abbrev opsL : List (HloOp τ sig (Elt F)) :=
  [ unary main_v42 main_v44 (broadcastInDim S128x1 ![0] bcast_S128_S128x1_0 : (⟨S128, .i32⟩ : BufTy).Contents (Elt F) → (⟨S128x1, .i32⟩ : BufTy).Contents (Elt F)),
    binary main_v43 main_v44 main_v45 (fn_main_v45 (F := F)),
    nullary main_cst_14 (constant S_ .f32 0x3F800000#32),
    unary main_cst_14 main_v46 (broadcastInDim S128 ![] bcast_S_S128 : (⟨S_, .f32⟩ : BufTy).Contents (Elt F) → (⟨S128, .f32⟩ : BufTy).Contents (Elt F)),
    ternary main_v32 main_v45 main_v46 main_v47 ((fun x i u => Host.scatter scatter_S128x100000_S128x2_S128_n_01_01_1 (fun _ b => b) x i u) : (⟨S128x100000, .f32⟩ : BufTy).Contents (Elt F) → (⟨S128x2, .i32⟩ : BufTy).Contents (Elt F) → (⟨S128, .f32⟩ : BufTy).Contents (Elt F) → (⟨S128x100000, .f32⟩ : BufTy).Contents (Elt F)),
    binary main_v47 main_v29 main_v48 (subf : (⟨S128x100000, .f32⟩ : BufTy).Contents (Elt F) → (⟨S128x100000, .f32⟩ : BufTy).Contents (Elt F) → (⟨S128x100000, .f32⟩ : BufTy).Contents (Elt F)),
    binary main_v48 main_v29 main_v49 (addf : (⟨S128x100000, .f32⟩ : BufTy).Contents (Elt F) → (⟨S128x100000, .f32⟩ : BufTy).Contents (Elt F) → (⟨S128x100000, .f32⟩ : BufTy).Contents (Elt F)) ]

/-- @main's 332 operations, in order (a called function's operations stand in its call's place, spelt `TRef.…`). -/
abbrev ops : List (HloOp τ sig (Elt F)) :=
  opsBody ++ (opsL)

theorem main_part0_eq (c : Dev nD) : main_part0 (F := F) c = seq opsBody := rfl
theorem main_part1_eq (c : Dev nD) : main_part1 (F := F) c = seq opsL := rfl
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub ..⟩
theorem opsA_fresh : (opsA : List (HloOp τ sig (Elt F))).Forall fun op => op.fresh = ∅ :=
  forall_fresh_of_map rfl
theorem opsB_sub : (opsB : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
theorem opsB_fresh : (opsB : List (HloOp τ sig (Elt F))).Forall fun op => op.fresh = ∅ :=
  forall_fresh_of_map rfl
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
theorem opsC_fresh : (opsC : List (HloOp τ sig (Elt F))).Forall fun op => op.fresh = ∅ :=
  forall_fresh_of_map rfl
theorem opsD_sub : (opsD : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem opsD_fresh : (opsD : List (HloOp τ sig (Elt F))).Forall fun op => op.fresh = ∅ :=
  forall_fresh_of_map rfl
theorem opsE_sub : (opsE : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
theorem opsE_fresh : (opsE : List (HloOp τ sig (Elt F))).Forall fun op => op.fresh = ∅ :=
  forall_fresh_of_map rfl
theorem opsF_sub : (opsF : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
theorem opsF_fresh : (opsF : List (HloOp τ sig (Elt F))).Forall fun op => op.fresh = ∅ :=
  forall_fresh_of_map rfl
theorem opsG_sub : (opsG : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub ..⟩
theorem opsG_fresh : (opsG : List (HloOp τ sig (Elt F))).Forall fun op => op.fresh = ∅ :=
  forall_fresh_of_map rfl
theorem opsH_sub : (opsH : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
theorem opsH_fresh : (opsH : List (HloOp τ sig (Elt F))).Forall fun op => op.fresh = ∅ :=
  forall_fresh_of_map rfl
theorem opsI_sub : (opsI : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub ..⟩
theorem opsI_fresh : (opsI : List (HloOp τ sig (Elt F))).Forall fun op => op.fresh = ∅ :=
  forall_fresh_of_map rfl
theorem opsJ_sub : (opsJ : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub ..⟩
theorem opsJ_fresh : (opsJ : List (HloOp τ sig (Elt F))).Forall fun op => op.fresh = ∅ :=
  forall_fresh_of_map rfl
theorem opsK_sub : (opsK : List (HloOp τ sig (Elt F))).Forall fun op => op.bufs ⊆ tcRefs τ sig :=
  ⟨unary_bufs_sub .., binary_bufs_sub .., nullary_bufs_sub .., nullary_bufs_sub .., nullary_bufs_sub .., quaternary_bufs_sub .., quaternary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
theorem opsK_fresh : (opsK : List (HloOp τ sig (Elt F))).Forall fun op => op.fresh = ∅ :=
  forall_fresh_of_map rfl
theorem opsL_sub : (opsL : List (HloOp τ sig (Elt F))).Forall fun op => op.bufs ⊆ tcRefs τ sig :=
  ⟨unary_bufs_sub .., binary_bufs_sub .., nullary_bufs_sub .., unary_bufs_sub .., ternary_bufs_sub .., binary_bufs_sub .., binary_bufs_sub ..⟩
theorem opsL_fresh : (opsL : List (HloOp τ sig (Elt F))).Forall fun op => op.fresh = ∅ :=
  forall_fresh_of_map rfl
theorem ops_sub : (ops : List (HloOp τ sig (Elt F))).Forall fun op => op.bufs ⊆ tcRefs τ sig :=
  List.forall_iff_forall_mem.mpr fun op h => by
    simp only [ops, opsBody, List.mem_append, or_assoc] at h
    rcases h with h | h | h | h | h | h | h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsF_sub op h, List.forall_iff_forall_mem.mp opsG_sub op h, List.forall_iff_forall_mem.mp opsH_sub op h, List.forall_iff_forall_mem.mp opsI_sub op h, List.forall_iff_forall_mem.mp opsJ_sub op h, List.forall_iff_forall_mem.mp opsK_sub op h, List.forall_iff_forall_mem.mp opsL_sub op h]
theorem ops_fresh : ∀ op ∈ (ops : List (HloOp τ sig (Elt F))), op.fresh = ∅ := fun op h => by
    simp only [ops, opsBody, List.mem_append, or_assoc] at h
    rcases h with h | h | h | h | h | h | h | h | h | h | h | h
    exacts [List.forall_iff_forall_mem.mp opsA_fresh op h, List.forall_iff_forall_mem.mp opsB_fresh op h, List.forall_iff_forall_mem.mp opsC_fresh op h, List.forall_iff_forall_mem.mp opsD_fresh op h, List.forall_iff_forall_mem.mp opsE_fresh op h, List.forall_iff_forall_mem.mp opsF_fresh op h, List.forall_iff_forall_mem.mp opsG_fresh op h, List.forall_iff_forall_mem.mp opsH_fresh op h, List.forall_iff_forall_mem.mp opsI_fresh op h, List.forall_iff_forall_mem.mp opsJ_fresh op h, List.forall_iff_forall_mem.mp opsK_fresh op h, List.forall_iff_forall_mem.mp opsL_fresh op h]

end Cert.ReferenceIdeal.Value

end
-- ==== Proof.Reference.Terms.lean ====
module

public import proofs.«01_k».proof.Proof.Reference.Ops

@[expose] public section

set_option Elab.async false
set_option maxRecDepth 8192
set_option maxHeartbeats 4000000

/-!
What the buffers of the reference hold, each as an expression in the earlier ones.
-/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- What the buffer `main_c` holds at the end. -/
def res_main_c (V0 : Valuation τ sig (Elt F)) : (Proc.devRef .tc main_c : DevRef τ sig).ty.Contents (Elt F) :=
  constantI S_ 32 42#32

/-- What the buffer `main_v6` holds at the end. -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

/-- What the buffer `main_call0_v2` holds at the end. -/
def res_main_call0_v2 (V0 : Valuation τ sig (Elt F)) : (Proc.devRef .tc main_call0_v2 : DevRef τ sig).ty.Contents (Elt F) :=
  broadcastInDim S1x1 ![] bcast_S_S1x1 (id (constant S_ .f32 0x00000000#32))

/-- What the buffer `main_call0_v5` holds at the end. -/
def res_main_call0_v5 (V0 : Valuation τ sig (Elt F)) : (Proc.devRef .tc main_call0_v5 : DevRef τ sig).ty.Contents (Elt F) :=
  shapeCast _ (extractStridedSlice S1 ![0] (res_main_v6 V0) slices_S2_S1_0) shapeCasts_S1_S_

/-- What the buffer `main_call0_v7` holds at the end. -/
def res_main_call0_v7 (V0 : Valuation τ sig (Elt F)) : (Proc.devRef .tc main_call0_v7 : DevRef τ sig).ty.Contents (Elt F) :=
  shapeCast _ (extractStridedSlice S1 ![1] (res_main_v6 V0) slices_S2_S1_1) shapeCasts_S1_S_

/-- What the buffer `main_call0_v14` holds at the end. -/
def res_main_call0_v14 (V0 : Valuation τ sig (Elt F)) : (Proc.devRef .tc main_call0_v14 : DevRef τ sig).ty.Contents (Elt F) :=
  addi (muli (broadcastInDim S128x100000 ![] bcast_S_S128x100000 (constantI S_ 64 100000#64)) (iotaInDim S128x100000 64 0)) (muli (broadcastInDim S128x100000 ![] bcast_S_S128x100000 (constantI S_ 64 1#64)) (iotaInDim S128x100000 64 1))

/-- What the buffer `main_call0_call0_v1` holds at the end. -/
def res_main_call0_call0_v1 (V0 : Valuation τ sig (Elt F)) : (Proc.devRef .tc main_call0_call0_v1 : DevRef τ sig).ty.Contents (Elt F) :=
  xori (xori (res_main_call0_v5 V0) (res_main_call0_v7 V0)) (constantI S_ 32 466688986#32)

/-- What the buffer `main_call0_call0_v5` holds at the end. -/
def res_main_call0_call0_v5 (V0 : Valuation τ sig (Elt F)) : (Proc.devRef .tc main_call0_call0_v5 : DevRef τ sig).ty.Contents (Elt F) :=
  addi (trunci 32 (res_main_call0_v14 V0) natLt_32_64) (broadcastInDim S128x100000 ![] bcast_S_S128x100000 (res_main_call0_v7 V0))

/-- What the buffer `main_call0_call0_v6` holds at the end. -/
def res_main_call0_call0_v6 (V0 : Valuation τ sig (Elt F)) : (Proc.devRef .tc main_call0_call0_v6 : DevRef τ sig).ty.Contents (Elt F) :=
  addi (addi (trunci 32 (Host.shrui (res_main_call0_v14 V0) (broadcastInDim S128x100000 ![] bcast_S_S128x100000 (constantI S_ 64 32#64))) natLt_32_64) (broadcastInDim S128x100000 ![] bcast_S_S128x100000 (res_main_call0_v5 V0))) (res_main_call0_call0_v5 V0)

/-- What the buffer `main_call0_call0_v12` holds at the end. -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S128x100000 ![] bcast_S_S128x100000 (constantI S_ 32 13#32))) (Host.shrui (res_main_call0_call0_v5 V0) (broadcastInDim S128x100000 ![] bcast_S_S128x100000 (constantI S_ 32 19#32))))

/-- What the buffer `main_call0_call0_v13` holds at the end. -/
def res_main_call0_call0_v13 (V0 : Valuation τ sig (Elt F)) : (Proc.devRef .tc main_call0_call0_v13 : DevRef τ sig).ty.Contents (Elt F) :=
  addi (res_main_call0_call0_v6 V0) (res_main_call0_call0_v12 V0)

/-- What the buffer `main_call0_call0_v19` holds at the end. -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S128x100000 ![] bcast_S_S128x100000 (constantI S_ 32 15#32))) (Host.shrui (res_main_call0_call0_v12 V0) (broadcastInDim S128x100000 ![] bcast_S_S128x100000 (constantI S_ 32 17#32))))

/-- What the buffer `main_call0_call0_v20` holds at the end. -/
def res_main_call0_call0_v20 (V0 : Valuation τ sig (Elt F)) : (Proc.devRef .tc main_call0_call0_v20 : DevRef τ sig).ty.Contents (Elt F) :=
  addi (res_main_call0_call0_v13 V0) (res_main_call0_call0_v19 V0)

/-- What the buffer `main_call0_call0_v26` holds at the end. -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S128x100000 ![] bcast_S_S128x100000 (constantI S_ 32 26#32))) (Host.shrui (res_main_call0_call0_v19 V0) (broadcastInDim S128x100000 ![] bcast_S_S128x100000 (constantI S_ 32 6#32))))

/-- What the buffer `main_call0_call0_v27` holds at the end. -/
def res_main_call0_call0_v27 (V0 : Valuation τ sig (Elt F)) : (Proc.devRef .tc main_call0_call0_v27 : DevRef τ sig).ty.Contents (Elt F) :=
  addi (res_main_call0_call0_v20 V0) (res_main_call0_call0_v26 V0)

/-- What the buffer `main_call0_call0_v39` holds at the end. -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S128x100000 ![] bcast_S_S128x100000 (constantI S_ 32 6#32))) (Host.shrui (res_main_call0_call0_v26 V0) (broadcastInDim S128x100000 ![] bcast_S_S128x100000 (constantI S_ 32 26#32))))) (broadcastInDim S128x100000 ![] bcast_S_S128x100000 (res_main_call0_call0_v1 V0))) (broadcastInDim S128x100000 ![] bcast_S_S128x100000 (constantI S_ 32 1#32))

/-- What the buffer `main_call0_call0_v40` holds at the end. -/
def res_main_call0_call0_v40 (V0 : Valuation τ sig (Elt F)) : (Proc.devRef .tc main_call0_call0_v40 : DevRef τ sig).ty.Contents (Elt F) :=
  addi (addi (res_main_call0_call0_v27 V0) (broadcastInDim S128x100000 ![] bcast_S_S128x100000 (res_main_call0_v7 V0))) (res_main_call0_call0_v39 V0)

/-- What the buffer `main_call0_call0_v46` holds at the end. -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S128x100000 ![] bcast_S_S128x100000 (constantI S_ 32 17#32))) (Host.shrui (res_main_call0_call0_v39 V0) (broadcastInDim S128x100000 ![] bcast_S_S128x100000 (constantI S_ 32 15#32))))

/-- What the buffer `main_call0_call0_v47` holds at the end. -/
def res_main_call0_call0_v47 (V0 : Valuation τ sig (Elt F)) : (Proc.devRef .tc main_call0_call0_v47 : DevRef τ sig).ty.Contents (Elt F) :=
  addi (res_main_call0_call0_v40 V0) (res_main_call0_call0_v46 V0)

/-- What the buffer `main_call0_call0_v53` holds at the end. -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S128x100000 ![] bcast_S_S128x100000 (constantI S_ 32 29#32))) (Host.shrui (res_main_call0_call0_v46 V0) (broadcastInDim S128x100000 ![] bcast_S_S128x100000 (constantI S_ 32 3#32))))

/-- What the buffer `main_call0_call0_v54` holds at the end. -/
def res_main_call0_call0_v54 (V0 : Valuation τ sig (Elt F)) : (Proc.devRef .tc main_call0_call0_v54 : DevRef τ sig).ty.Contents (Elt F) :=
  addi (res_main_call0_call0_v47 V0) (res_main_call0_call0_v53 V0)

/-- What the buffer `main_call0_call0_v60` holds at the end. -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S128x100000 ![] bcast_S_S128x100000 (constantI S_ 32 16#32))) (Host.shrui (res_main_call0_call0_v53 V0) (broadcastInDim S128x100000 ![] bcast_S_S128x100000 (constantI S_ 32 16#32))))

/-- What the buffer `main_call0_call0_v61` holds at the end. -/
def res_main_call0_call0_v61 (V0 : Valuation τ sig (Elt F)) : (Proc.devRef .tc main_call0_call0_v61 : DevRef τ sig).ty.Contents (Elt F) :=
  addi (res_main_call0_call0_v54 V0) (res_main_call0_call0_v60 V0)

/-- What the buffer `main_call0_call0_v73` holds at the end. -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32))))) (broadcastInDim S128x100000 ![] bcast_S_S128x100000 (res_main_call0_v5 V0))) (broadcastInDim S128x100000 ![] bcast_S_S128x100000 (constantI S_ 32 2#32))

/-- What the buffer `main_call0_call0_v74` holds at the end. -/
def res_main_call0_call0_v74 (V0 : Valuation τ sig (Elt F)) : (Proc.devRef .tc main_call0_call0_v74 : DevRef τ sig).ty.Contents (Elt F) :=
  addi (addi (res_main_call0_call0_v61 V0) (broadcastInDim S128x100000 ![] bcast_S_S128x100000 (res_main_call0_call0_v1 V0))) (res_main_call0_call0_v73 V0)

/-- What the buffer `main_call0_call0_v80` holds at the end. -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S128x100000 ![] bcast_S_S128x100000 (constantI S_ 32 13#32))) (Host.shrui (res_main_call0_call0_v73 V0) (broadcastInDim S128x100000 ![] bcast_S_S128x100000 (constantI S_ 32 19#32))))

/-- What the buffer `main_call0_call0_v81` holds at the end. -/
def res_main_call0_call0_v81 (V0 : Valuation τ sig (Elt F)) : (Proc.devRef .tc main_call0_call0_v81 : DevRef τ sig).ty.Contents (Elt F) :=
  addi (res_main_call0_call0_v74 V0) (res_main_call0_call0_v80 V0)

/-- What the buffer `main_call0_call0_v87` holds at the end. -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S128x100000 ![] bcast_S_S128x100000 (constantI S_ 32 15#32))) (Host.shrui (res_main_call0_call0_v80 V0) (broadcastInDim S128x100000 ![] bcast_S_S128x100000 (constantI S_ 32 17#32))))

/-- What the buffer `main_call0_call0_v88` holds at the end. -/
def res_main_call0_call0_v88 (V0 : Valuation τ sig (Elt F)) : (Proc.devRef .tc main_call0_call0_v88 : DevRef τ sig).ty.Contents (Elt F) :=
  addi (res_main_call0_call0_v81 V0) (res_main_call0_call0_v87 V0)

/-- What the buffer `main_call0_call0_v94` holds at the end. -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S128x100000 ![] bcast_S_S128x100000 (constantI S_ 32 26#32))) (Host.shrui (res_main_call0_call0_v87 V0) (broadcastInDim S128x100000 ![] bcast_S_S128x100000 (constantI S_ 32 6#32))))

/-- What the buffer `main_call0_call0_v95` holds at the end. -/
def res_main_call0_call0_v95 (V0 : Valuation τ sig (Elt F)) : (Proc.devRef .tc main_call0_call0_v95 : DevRef τ sig).ty.Contents (Elt F) :=
  addi (res_main_call0_call0_v88 V0) (res_main_call0_call0_v94 V0)

/-- What the buffer `main_call0_call0_v107` holds at the end. -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S128x100000 ![] bcast_S_S128x100000 (constantI S_ 32 6#32))) (Host.shrui (res_main_call0_call0_v94 V0) (broadcastInDim S128x100000 ![] bcast_S_S128x100000 (constantI S_ 32 26#32))))) (broadcastInDim S128x100000 ![] bcast_S_S128x100000 (res_main_call0_v7 V0))) (broadcastInDim S128x100000 ![] bcast_S_S128x100000 (constantI S_ 32 3#32))

/-- What the buffer `main_call0_call0_v108` holds at the end. -/
def res_main_call0_call0_v108 (V0 : Valuation τ sig (Elt F)) : (Proc.devRef .tc main_call0_call0_v108 : DevRef τ sig).ty.Contents (Elt F) :=
  addi (addi (res_main_call0_call0_v95 V0) (broadcastInDim S128x100000 ![] bcast_S_S128x100000 (res_main_call0_v5 V0))) (res_main_call0_call0_v107 V0)

/-- What the buffer `main_call0_call0_v114` holds at the end. -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S128x100000 ![] bcast_S_S128x100000 (constantI S_ 32 17#32))) (Host.shrui (res_main_call0_call0_v107 V0) (broadcastInDim S128x100000 ![] bcast_S_S128x100000 (constantI S_ 32 15#32))))

/-- What the buffer `main_call0_call0_v115` holds at the end. -/
def res_main_call0_call0_v115 (V0 : Valuation τ sig (Elt F)) : (Proc.devRef .tc main_call0_call0_v115 : DevRef τ sig).ty.Contents (Elt F) :=
  addi (res_main_call0_call0_v108 V0) (res_main_call0_call0_v114 V0)

/-- What the buffer `main_call0_call0_v121` holds at the end. -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S128x100000 ![] bcast_S_S128x100000 (constantI S_ 32 29#32))) (Host.shrui (res_main_call0_call0_v114 V0) (broadcastInDim S128x100000 ![] bcast_S_S128x100000 (constantI S_ 32 3#32))))

/-- What the buffer `main_call0_call0_v122` holds at the end. -/
def res_main_call0_call0_v122 (V0 : Valuation τ sig (Elt F)) : (Proc.devRef .tc main_call0_call0_v122 : DevRef τ sig).ty.Contents (Elt F) :=
  addi (res_main_call0_call0_v115 V0) (res_main_call0_call0_v121 V0)

/-- What the buffer `main_call0_call0_v128` holds at the end. -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S128x100000 ![] bcast_S_S128x100000 (constantI S_ 32 16#32))) (Host.shrui (res_main_call0_call0_v121 V0) (broadcastInDim S128x100000 ![] bcast_S_S128x100000 (constantI S_ 32 16#32))))

/-- What the buffer `main_call0_call0_v129` holds at the end. -/
def res_main_call0_call0_v129 (V0 : Valuation τ sig (Elt F)) : (Proc.devRef .tc main_call0_call0_v129 : DevRef τ sig).ty.Contents (Elt F) :=
  addi (res_main_call0_call0_v122 V0) (res_main_call0_call0_v128 V0)

/-- What the buffer `main_call0_call0_v141` holds at the end. -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0))) (broadcastInDim S128x100000 ![] bcast_S_S128x100000 (constantI S_ 32 4#32))

/-- What the buffer `main_call0_call0_v142` holds at the end. -/
def res_main_call0_call0_v142 (V0 : Valuation τ sig (Elt F)) : (Proc.devRef .tc main_call0_call0_v142 : DevRef τ sig).ty.Contents (Elt F) :=
  addi (addi (res_main_call0_call0_v129 V0) (broadcastInDim S128x100000 ![] bcast_S_S128x100000 (res_main_call0_v7 V0))) (res_main_call0_call0_v141 V0)

/-- What the buffer `main_call0_call0_v148` holds at the end. -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S128x100000 ![] bcast_S_S128x100000 (constantI S_ 32 13#32))) (Host.shrui (res_main_call0_call0_v141 V0) (broadcastInDim S128x100000 ![] bcast_S_S128x100000 (constantI S_ 32 19#32))))

/-- What the buffer `main_call0_call0_v149` holds at the end. -/
def res_main_call0_call0_v149 (V0 : Valuation τ sig (Elt F)) : (Proc.devRef .tc main_call0_call0_v149 : DevRef τ sig).ty.Contents (Elt F) :=
  addi (res_main_call0_call0_v142 V0) (res_main_call0_call0_v148 V0)

/-- What the buffer `main_call0_call0_v155` holds at the end. -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S128x100000 ![] bcast_S_S128x100000 (constantI S_ 32 15#32))) (Host.shrui (res_main_call0_call0_v148 V0) (broadcastInDim S128x100000 ![] bcast_S_S128x100000 (constantI S_ 32 17#32))))

/-- What the buffer `main_call0_call0_v156` holds at the end. -/
def res_main_call0_call0_v156 (V0 : Valuation τ sig (Elt F)) : (Proc.devRef .tc main_call0_call0_v156 : DevRef τ sig).ty.Contents (Elt F) :=
  addi (res_main_call0_call0_v149 V0) (res_main_call0_call0_v155 V0)

/-- What the buffer `main_call0_call0_v162` holds at the end. -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S128x100000 ![] bcast_S_S128x100000 (constantI S_ 32 26#32))) (Host.shrui (res_main_call0_call0_v155 V0) (broadcastInDim S128x100000 ![] bcast_S_S128x100000 (constantI S_ 32 6#32))))

/-- What the buffer `main_call0_call0_v163` holds at the end. -/
def res_main_call0_call0_v163 (V0 : Valuation τ sig (Elt F)) : (Proc.devRef .tc main_call0_call0_v163 : DevRef τ sig).ty.Contents (Elt F) :=
  addi (res_main_call0_call0_v156 V0) (res_main_call0_call0_v162 V0)

/-- What the buffer `main_v18` holds at the end. -/
def res_main_v18 (V0 : Valuation τ sig (Elt F)) : (Proc.devRef .tc main_v18 : DevRef τ sig).ty.Contents (Elt F) :=
  Host.divf (addf (V0 (Proc.devRef .tc main_arg0)) (Host.negf (Host.log (addf (Host.negf (Host.log (addf (maximumf (broadcastInDim S128x100000 ![0, 1] bcast_S1x1_S128x100000_0_1 (res_main_call0_v2 V0)) (addf (mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0)))) (broadcastInDim S128x100000 ![0, 1] bcast_S1x1_S128x100000_0_1 (res_main_call0_v2 V0)))) (broadcastInDim S128x100000 ![] bcast_S_S128x100000 (constant S_ .f32 0x1E3CE508#32))))) (broadcastInDim S128x100000 ![] bcast_S_S128x100000 (constant S_ .f32 0x1E3CE508#32)))))) (broadcastInDim S128x100000 ![] bcast_S_S128x100000 (constant S_ .f32 0x3F800000#32))

/-- What the buffer `main_v25` holds at the end. -/
def res_main_v25 (V0 : Valuation τ sig (Elt F)) : (Proc.devRef .tc main_v25 : DevRef τ sig).ty.Contents (Elt F) :=
  Host.exp (subf (res_main_v18 V0) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (res_main_v18 V0) (constant S_ .f32 0xFF800000#32) reducesTo_S128x100000_S128_d1 h_S_)))))

/-- What the buffer `main_v29` holds at the end. -/
def res_main_v29 (V0 : Valuation τ sig (Elt F)) : (Proc.devRef .tc main_v29 : DevRef τ sig).ty.Contents (Elt F) :=
  Host.divf (res_main_v25 V0) (broadcastInDim S128x100000 ![0, 1] bcast_S128x1_S128x100000_0_1 (broadcastInDim S128x1 ![0] bcast_S128_S128x1_0 (Host.reduceAdd (res_main_v25 V0) (constant S_ .f32 0x00000000#32) reducesTo_S128x100000_S128_d1 h_S_)))

/-- What the buffer `main_call1_v0` holds at the end. -/
def res_main_call1_v0 (V0 : Valuation τ sig (Elt F)) : (Proc.devRef .tc main_call1_v0 : DevRef τ sig).ty.Contents (Elt F) :=
  iotaInDim S128x100000 32 1

/-- What the buffer `main_call1_cst` holds at the end. -/
def res_main_call1_cst (V0 : Valuation τ sig (Elt F)) : (Proc.devRef .tc main_call1_cst : DevRef τ sig).ty.Contents (Elt F) :=
  constant S_ .f32 0xFF800000#32

/-- What the buffer `main_call1_c` holds at the end. -/
def res_main_call1_c (V0 : Valuation τ sig (Elt F)) : (Proc.devRef .tc main_call1_c : DevRef τ sig).ty.Contents (Elt F) :=
  constantI S_ 32 0#32

/-- What the buffer `main_v30` holds at the end. -/
def res_main_v30 (V0 : Valuation τ sig (Elt F)) : (Proc.devRef .tc main_v30 : DevRef τ sig).ty.Contents (Elt F) :=
  argWhere (res_main_v29 V0) (res_main_call1_v0 V0) (res_main_call1_cst V0) (res_main_call1_c V0)

/-- What the buffer `main_v31` holds at the end. -/
def res_main_v31 (V0 : Valuation τ sig (Elt F)) : (Proc.devRef .tc main_v31 : DevRef τ sig).ty.Contents (Elt F) :=
  iotaInDim S128 32 0

end Cert.ReferenceIdeal.Value

end
-- ==== Proof.Reference.Early.lean ====
module

public import proofs.«01_k».proof.Proof.Reference.Terms

@[expose] public section

set_option Elab.async false
set_option maxRecDepth 8192
set_option maxHeartbeats 4000000

/-!
Running the first half of the reference: what each buffer read later holds after each piece.
-/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after opsA (val0 V0)
/-- The buffers that window `opsA`'s operations write. -/
abbrev opsA_W : List (Ref sig .tc) := [main_c, main_c_0, main_v0, main_v1, main_v2, main_c_1, main_v3, main_v4, main_v5, main_v6, main_cst, main_cst_2, main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1]
theorem opsA_writes : (opsA : List (HloOp τ sig (Elt F))).Forall fun op => op.writes ⊆ (opsA_W.map (Proc.devRef (τ := τ) .tc)).toFinset :=
  forall_writes_sub_of_map rfl
/-- A buffer that window `opsA` does not write keeps its contents through it. -/
theorem val0_1_keep (V0 : Valuation τ sig (Elt F)) (r : Ref sig .tc) (h : r ∉ opsA_W) :
    val0_1 V0 (Proc.devRef .tc r) = val0 V0 (Proc.devRef .tc r) :=
  after_of_writes_sub opsA _ opsA_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_call0_v2 (V0 : Valuation τ sig (Elt F)) : val0_1 V0 (no_index (Proc.devRef .tc main_call0_v2)) = res_main_call0_v2 V0 := by
  unfold val0_1
  simp only [opsA, TRef.binary, TRef.nullary, TRef.reshape, TRef.unary, TRef.toBuf, TRef.ofBuf, cast_eq]
  after_results_simp
  all_goals rfl
theorem val0_1_main_call0_v3 (V0 : Valuation τ sig (Elt F)) : val0_1 V0 (no_index (Proc.devRef .tc main_call0_v3)) = broadcastInDim S1x1 ![] bcast_S_S1x1 (id (constant S_ .f32 0x3F800000#32)) := by
  unfold val0_1
  simp only [opsA, TRef.binary, TRef.nullary, TRef.reshape, TRef.unary, TRef.toBuf, TRef.ofBuf, cast_eq]
  after_results_simp
  all_goals rfl
theorem val0_1_main_call0_v5 (V0 : Valuation τ sig (Elt F)) : val0_1 V0 (no_index (Proc.devRef .tc main_call0_v5)) = res_main_call0_v5 V0 := by
  unfold val0_1
  simp only [opsA, TRef.binary, TRef.nullary, TRef.reshape, TRef.unary, TRef.toBuf, TRef.ofBuf, cast_eq]
  after_results_simp
  all_goals rfl
theorem val0_1_main_call0_v7 (V0 : Valuation τ sig (Elt F)) : val0_1 V0 (no_index (Proc.devRef .tc main_call0_v7)) = res_main_call0_v7 V0 := by
  unfold val0_1
  simp only [opsA, TRef.binary, TRef.nullary, TRef.reshape, TRef.unary, TRef.toBuf, TRef.ofBuf, cast_eq]
  after_results_simp
  all_goals rfl
theorem val0_1_main_call0_v14 (V0 : Valuation τ sig (Elt F)) : val0_1 V0 (no_index (Proc.devRef .tc main_call0_v14)) = res_main_call0_v14 V0 := by
  unfold val0_1
  simp only [opsA, TRef.binary, TRef.nullary, TRef.reshape, TRef.unary, TRef.toBuf, TRef.ofBuf, cast_eq]
  after_results_simp
  all_goals rfl
theorem val0_1_main_call0_c_1 (V0 : Valuation τ sig (Elt F)) : val0_1 V0 (no_index (Proc.devRef .tc main_call0_c_1)) = constantI S_ 64 32#64 := by
  unfold val0_1
  simp only [opsA, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after opsB (val0_1 V0)
/-- The buffers that window `opsB`'s operations write. -/
abbrev opsB_W : List (Ref sig .tc) := [main_call0_v15, main_call0_v16, main_call0_v17, main_call0_v18, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20]
theorem opsB_writes : (opsB : List (HloOp τ sig (Elt F))).Forall fun op => op.writes ⊆ (opsB_W.map (Proc.devRef (τ := τ) .tc)).toFinset :=
  forall_writes_sub_of_map rfl
/-- A buffer that window `opsB` does not write keeps its contents through it. -/
theorem val0_2_keep (V0 : Valuation τ sig (Elt F)) (r : Ref sig .tc) (h : r ∉ opsB_W) :
    val0_2 V0 (Proc.devRef .tc r) = val0_1 V0 (Proc.devRef .tc r) :=
  after_of_writes_sub opsB _ opsB_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_call0_v2 (V0 : Valuation τ sig (Elt F)) : val0_2 V0 (no_index (Proc.devRef .tc main_call0_v2)) = res_main_call0_v2 V0 :=
  (val0_2_keep V0 main_call0_v2 (by decide)).trans (val0_1_main_call0_v2 V0)
theorem val0_2_main_call0_v3 (V0 : Valuation τ sig (Elt F)) : val0_2 V0 (no_index (Proc.devRef .tc main_call0_v3)) = broadcastInDim S1x1 ![] bcast_S_S1x1 (id (constant S_ .f32 0x3F800000#32)) :=
  (val0_2_keep V0 main_call0_v3 (by decide)).trans (val0_1_main_call0_v3 V0)
theorem val0_2_main_call0_v5 (V0 : Valuation τ sig (Elt F)) : val0_2 V0 (no_index (Proc.devRef .tc main_call0_v5)) = res_main_call0_v5 V0 :=
  (val0_2_keep V0 main_call0_v5 (by decide)).trans (val0_1_main_call0_v5 V0)
theorem val0_2_main_call0_v7 (V0 : Valuation τ sig (Elt F)) : val0_2 V0 (no_index (Proc.devRef .tc main_call0_v7)) = res_main_call0_v7 V0 :=
  (val0_2_keep V0 main_call0_v7 (by decide)).trans (val0_1_main_call0_v7 V0)
theorem val0_2_main_call0_call0_v1 (V0 : Valuation τ sig (Elt F)) : val0_2 V0 (no_index (Proc.devRef .tc main_call0_call0_v1)) = res_main_call0_call0_v1 V0 := by
  unfold val0_2
  simp only [opsB, TRef.binary, TRef.nullary, TRef.unary, TRef.toBuf, TRef.ofBuf, cast_eq]
  after_results_simp
  simp only [val0_1_main_call0_v7, val0_1_main_call0_v5] <;> rfl
theorem val0_2_main_call0_call0_v19 (V0 : Valuation τ sig (Elt F)) : val0_2 V0 (no_index (Proc.devRef .tc main_call0_call0_v19)) = res_main_call0_call0_v19 V0 := by
  unfold val0_2
  simp only [opsB, TRef.binary, TRef.nullary, TRef.unary, TRef.toBuf, TRef.ofBuf, cast_eq]
  after_results_simp
  simp only [val0_1_main_call0_v7, val0_1_main_call0_v14, val0_1_main_call0_v5, val0_1_main_call0_c_1] <;> rfl
theorem val0_2_main_call0_call0_v20 (V0 : Valuation τ sig (Elt F)) : val0_2 V0 (no_index (Proc.devRef .tc main_call0_call0_v20)) = res_main_call0_call0_v20 V0 := by
  unfold val0_2
  simp only [opsB, TRef.binary, TRef.nullary, TRef.unary, TRef.toBuf, TRef.ofBuf, cast_eq]
  after_results_simp
  simp only [val0_1_main_call0_v7, val0_1_main_call0_v14, val0_1_main_call0_v5, val0_1_main_call0_c_1] <;> rfl

/-- The device's buffer contents after @main's first 90 operations. -/
def val0_3 (V0 : Valuation τ sig (Elt F)) : Valuation τ sig (Elt F) := after opsC (val0_2 V0)
/-- The buffers that window `opsC`'s operations write. -/
abbrev opsC_W : List (Ref sig .tc) := [main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43]
theorem opsC_writes : (opsC : List (HloOp τ sig (Elt F))).Forall fun op => op.writes ⊆ (opsC_W.map (Proc.devRef (τ := τ) .tc)).toFinset :=
  forall_writes_sub_of_map rfl
/-- A buffer that window `opsC` does not write keeps its contents through it. -/
theorem val0_3_keep (V0 : Valuation τ sig (Elt F)) (r : Ref sig .tc) (h : r ∉ opsC_W) :
    val0_3 V0 (Proc.devRef .tc r) = val0_2 V0 (Proc.devRef .tc r) :=
  after_of_writes_sub opsC _ opsC_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_call0_v2 (V0 : Valuation τ sig (Elt F)) : val0_3 V0 (no_index (Proc.devRef .tc main_call0_v2)) = res_main_call0_v2 V0 :=
  (val0_3_keep V0 main_call0_v2 (by decide)).trans (val0_2_main_call0_v2 V0)
theorem val0_3_main_call0_v3 (V0 : Valuation τ sig (Elt F)) : val0_3 V0 (no_index (Proc.devRef .tc main_call0_v3)) = broadcastInDim S1x1 ![] bcast_S_S1x1 (id (constant S_ .f32 0x3F800000#32)) :=
  (val0_3_keep V0 main_call0_v3 (by decide)).trans (val0_2_main_call0_v3 V0)
theorem val0_3_main_call0_v5 (V0 : Valuation τ sig (Elt F)) : val0_3 V0 (no_index (Proc.devRef .tc main_call0_v5)) = res_main_call0_v5 V0 :=
  (val0_3_keep V0 main_call0_v5 (by decide)).trans (val0_2_main_call0_v5 V0)
theorem val0_3_main_call0_v7 (V0 : Valuation τ sig (Elt F)) : val0_3 V0 (no_index (Proc.devRef .tc main_call0_v7)) = res_main_call0_v7 V0 :=
  (val0_3_keep V0 main_call0_v7 (by decide)).trans (val0_2_main_call0_v7 V0)
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
theorem val0_3_main_call0_call0_v39 (V0 : Valuation τ sig (Elt F)) : val0_3 V0 (no_index (Proc.devRef .tc main_call0_call0_v39)) = res_main_call0_call0_v39 V0 := by
  unfold val0_3
  simp only [opsC, TRef.binary, TRef.nullary, TRef.unary, TRef.toBuf, TRef.ofBuf, cast_eq]
  after_results_simp
  simp only [val0_2_main_call0_call0_v1, val0_2_main_call0_call0_v19, val0_2_main_call0_call0_v20] <;> rfl
theorem val0_3_main_call0_call0_v40 (V0 : Valuation τ sig (Elt F)) : val0_3 V0 (no_index (Proc.devRef .tc main_call0_call0_v40)) = res_main_call0_call0_v40 V0 := by
  unfold val0_3
  simp only [opsC, TRef.binary, TRef.nullary, TRef.unary, TRef.toBuf, TRef.ofBuf, cast_eq]
  after_results_simp
  simp only [val0_2_main_call0_call0_v1, val0_2_main_call0_call0_v19, val0_2_main_call0_call0_v20, val0_2_main_call0_v7] <;> rfl
theorem val0_3_main_call0_call0_v42 (V0 : Valuation τ sig (Elt F)) : val0_3 V0 (no_index (Proc.devRef .tc main_call0_call0_v42)) = Host.shli (res_main_call0_call0_v39 V0) (broadcastInDim S128x100000 ![] bcast_S_S128x100000 (constantI S_ 32 17#32)) := by
  unfold val0_3
  simp only [opsC, TRef.binary, TRef.nullary, TRef.unary, TRef.toBuf, TRef.ofBuf, cast_eq]
  after_results_simp
  simp only [val0_2_main_call0_call0_v1, val0_2_main_call0_call0_v19, val0_2_main_call0_call0_v20] <;> rfl
theorem val0_3_main_call0_call0_v43 (V0 : Valuation τ sig (Elt F)) : val0_3 V0 (no_index (Proc.devRef .tc main_call0_call0_v43)) = broadcastInDim S128x100000 ![] bcast_S_S128x100000 (constantI S_ 32 15#32) := by
  unfold val0_3
  simp only [opsC, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after opsD (val0_3 V0)
/-- The buffers that window `opsD`'s operations write. -/
abbrev opsD_W : List (Ref sig .tc) := [main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67]
theorem opsD_writes : (opsD : List (HloOp τ sig (Elt F))).Forall fun op => op.writes ⊆ (opsD_W.map (Proc.devRef (τ := τ) .tc)).toFinset :=
  forall_writes_sub_of_map rfl
/-- A buffer that window `opsD` does not write keeps its contents through it. -/
theorem val0_4_keep (V0 : Valuation τ sig (Elt F)) (r : Ref sig .tc) (h : r ∉ opsD_W) :
    val0_4 V0 (Proc.devRef .tc r) = val0_3 V0 (Proc.devRef .tc r) :=
  after_of_writes_sub opsD _ opsD_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_call0_v2 (V0 : Valuation τ sig (Elt F)) : val0_4 V0 (no_index (Proc.devRef .tc main_call0_v2)) = res_main_call0_v2 V0 :=
  (val0_4_keep V0 main_call0_v2 (by decide)).trans (val0_3_main_call0_v2 V0)
theorem val0_4_main_call0_v3 (V0 : Valuation τ sig (Elt F)) : val0_4 V0 (no_index (Proc.devRef .tc main_call0_v3)) = broadcastInDim S1x1 ![] bcast_S_S1x1 (id (constant S_ .f32 0x3F800000#32)) :=
  (val0_4_keep V0 main_call0_v3 (by decide)).trans (val0_3_main_call0_v3 V0)
theorem val0_4_main_call0_v5 (V0 : Valuation τ sig (Elt F)) : val0_4 V0 (no_index (Proc.devRef .tc main_call0_v5)) = res_main_call0_v5 V0 :=
  (val0_4_keep V0 main_call0_v5 (by decide)).trans (val0_3_main_call0_v5 V0)
theorem val0_4_main_call0_v7 (V0 : Valuation τ sig (Elt F)) : val0_4 V0 (no_index (Proc.devRef .tc main_call0_v7)) = res_main_call0_v7 V0 :=
  (val0_4_keep V0 main_call0_v7 (by decide)).trans (val0_3_main_call0_v7 V0)
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
theorem val0_4_main_call0_call0_v61 (V0 : Valuation τ sig (Elt F)) : val0_4 V0 (no_index (Proc.devRef .tc main_call0_call0_v61)) = res_main_call0_call0_v61 V0 := by
  unfold val0_4
  simp only [opsD, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl
theorem val0_4_main_call0_call0_v67 (V0 : Valuation τ sig (Elt F)) : val0_4 V0 (no_index (Proc.devRef .tc main_call0_call0_v67)) = xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32)))) := by
  unfold val0_4
  simp only [opsD, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl

/-- The device's buffer contents after @main's first 150 operations. -/
def val0_5 (V0 : Valuation τ sig (Elt F)) : Valuation τ sig (Elt F) := after opsE (val0_4 V0)
/-- The buffers that window `opsE`'s operations write. -/
abbrev opsE_W : List (Ref sig .tc) := [main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23]
theorem opsE_writes : (opsE : List (HloOp τ sig (Elt F))).Forall fun op => op.writes ⊆ (opsE_W.map (Proc.devRef (τ := τ) .tc)).toFinset :=
  forall_writes_sub_of_map rfl
/-- A buffer that window `opsE` does not write keeps its contents through it. -/
theorem val0_5_keep (V0 : Valuation τ sig (Elt F)) (r : Ref sig .tc) (h : r ∉ opsE_W) :
    val0_5 V0 (Proc.devRef .tc r) = val0_4 V0 (Proc.devRef .tc r) :=
  after_of_writes_sub opsE _ opsE_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_call0_v2 (V0 : Valuation τ sig (Elt F)) : val0_5 V0 (no_index (Proc.devRef .tc main_call0_v2)) = res_main_call0_v2 V0 :=
  (val0_5_keep V0 main_call0_v2 (by decide)).trans (val0_4_main_call0_v2 V0)
theorem val0_5_main_call0_v3 (V0 : Valuation τ sig (Elt F)) : val0_5 V0 (no_index (Proc.devRef .tc main_call0_v3)) = broadcastInDim S1x1 ![] bcast_S_S1x1 (id (constant S_ .f32 0x3F800000#32)) :=
  (val0_5_keep V0 main_call0_v3 (by decide)).trans (val0_4_main_call0_v3 V0)
theorem val0_5_main_call0_v5 (V0 : Valuation τ sig (Elt F)) : val0_5 V0 (no_index (Proc.devRef .tc main_call0_v5)) = res_main_call0_v5 V0 :=
  (val0_5_keep V0 main_call0_v5 (by decide)).trans (val0_4_main_call0_v5 V0)
theorem val0_5_main_call0_v7 (V0 : Valuation τ sig (Elt F)) : val0_5 V0 (no_index (Proc.devRef .tc main_call0_v7)) = res_main_call0_v7 V0 :=
  (val0_5_keep V0 main_call0_v7 (by decide)).trans (val0_4_main_call0_v7 V0)
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
theorem val0_5_main_call0_call0_v87 (V0 : Valuation τ sig (Elt F)) : val0_5 V0 (no_index (Proc.devRef .tc main_call0_call0_v87)) = res_main_call0_call0_v87 V0 := by
  unfold val0_5
  simp only [opsE, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
theorem val0_5_main_call0_call0_v88 (V0 : Valuation τ sig (Elt F)) : val0_5 V0 (no_index (Proc.devRef .tc main_call0_call0_v88)) = res_main_call0_call0_v88 V0 := by
  unfold val0_5
  simp only [opsE, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
theorem val0_5_main_call0_call0_v90 (V0 : Valuation τ sig (Elt F)) : val0_5 V0 (no_index (Proc.devRef .tc main_call0_call0_v90)) = Host.shli (res_main_call0_call0_v87 V0) (broadcastInDim S128x100000 ![] bcast_S_S128x100000 (constantI S_ 32 26#32)) := by
  unfold val0_5
  simp only [opsE, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
theorem val0_5_main_call0_call0_c_23 (V0 : Valuation τ sig (Elt F)) : val0_5 V0 (no_index (Proc.devRef .tc main_call0_call0_c_23)) = constantI S_ 32 6#32 := by
  unfold val0_5
  simp only [opsE, TRef.binary, TRef.nullary, TRef.unary, TRef.toBuf, TRef.ofBuf, cast_eq]
  after_results_simp
  all_goals rfl

end Cert.ReferenceIdeal.Value

end
-- ==== Proof.Reference.Late.lean ====
module

public import proofs.«01_k».proof.Proof.Reference.Early

@[expose] public section

set_option Elab.async false
set_option maxRecDepth 8192
set_option maxHeartbeats 4000000

/-!
Running the second half of the reference: what each buffer read later holds after each piece.
-/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 180 operations. -/
def val0_6 (V0 : Valuation τ sig (Elt F)) : Valuation τ sig (Elt F) := after opsF (val0_5 V0)
/-- The buffers that window `opsF`'s operations write. -/
abbrev opsF_W : List (Ref sig .tc) := [main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115]
theorem opsF_writes : (opsF : List (HloOp τ sig (Elt F))).Forall fun op => op.writes ⊆ (opsF_W.map (Proc.devRef (τ := τ) .tc)).toFinset :=
  forall_writes_sub_of_map rfl
/-- A buffer that window `opsF` does not write keeps its contents through it. -/
theorem val0_6_keep (V0 : Valuation τ sig (Elt F)) (r : Ref sig .tc) (h : r ∉ opsF_W) :
    val0_6 V0 (Proc.devRef .tc r) = val0_5 V0 (Proc.devRef .tc r) :=
  after_of_writes_sub opsF _ opsF_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_call0_v2 (V0 : Valuation τ sig (Elt F)) : val0_6 V0 (no_index (Proc.devRef .tc main_call0_v2)) = res_main_call0_v2 V0 :=
  (val0_6_keep V0 main_call0_v2 (by decide)).trans (val0_5_main_call0_v2 V0)
theorem val0_6_main_call0_v3 (V0 : Valuation τ sig (Elt F)) : val0_6 V0 (no_index (Proc.devRef .tc main_call0_v3)) = broadcastInDim S1x1 ![] bcast_S_S1x1 (id (constant S_ .f32 0x3F800000#32)) :=
  (val0_6_keep V0 main_call0_v3 (by decide)).trans (val0_5_main_call0_v3 V0)
theorem val0_6_main_call0_v5 (V0 : Valuation τ sig (Elt F)) : val0_6 V0 (no_index (Proc.devRef .tc main_call0_v5)) = res_main_call0_v5 V0 :=
  (val0_6_keep V0 main_call0_v5 (by decide)).trans (val0_5_main_call0_v5 V0)
theorem val0_6_main_call0_v7 (V0 : Valuation τ sig (Elt F)) : val0_6 V0 (no_index (Proc.devRef .tc main_call0_v7)) = res_main_call0_v7 V0 :=
  (val0_6_keep V0 main_call0_v7 (by decide)).trans (val0_5_main_call0_v7 V0)
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
theorem val0_6_main_call0_call0_v114 (V0 : Valuation τ sig (Elt F)) : val0_6 V0 (no_index (Proc.devRef .tc main_call0_call0_v114)) = res_main_call0_call0_v114 V0 := by
  unfold val0_6
  simp only [opsF, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl
theorem val0_6_main_call0_call0_v115 (V0 : Valuation τ sig (Elt F)) : val0_6 V0 (no_index (Proc.devRef .tc main_call0_call0_v115)) = res_main_call0_call0_v115 V0 := by
  unfold val0_6
  simp only [opsF, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl

/-- The device's buffer contents after @main's first 210 operations. -/
def val0_7 (V0 : Valuation τ sig (Elt F)) : Valuation τ sig (Elt F) := after opsG (val0_6 V0)
/-- The buffers that window `opsG`'s operations write. -/
abbrev opsG_W : List (Ref sig .tc) := [main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139]
theorem opsG_writes : (opsG : List (HloOp τ sig (Elt F))).Forall fun op => op.writes ⊆ (opsG_W.map (Proc.devRef (τ := τ) .tc)).toFinset :=
  forall_writes_sub_of_map rfl
/-- A buffer that window `opsG` does not write keeps its contents through it. -/
theorem val0_7_keep (V0 : Valuation τ sig (Elt F)) (r : Ref sig .tc) (h : r ∉ opsG_W) :
    val0_7 V0 (Proc.devRef .tc r) = val0_6 V0 (Proc.devRef .tc r) :=
  after_of_writes_sub opsG _ opsG_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_call0_v2 (V0 : Valuation τ sig (Elt F)) : val0_7 V0 (no_index (Proc.devRef .tc main_call0_v2)) = res_main_call0_v2 V0 :=
  (val0_7_keep V0 main_call0_v2 (by decide)).trans (val0_6_main_call0_v2 V0)
theorem val0_7_main_call0_v3 (V0 : Valuation τ sig (Elt F)) : val0_7 V0 (no_index (Proc.devRef .tc main_call0_v3)) = broadcastInDim S1x1 ![] bcast_S_S1x1 (id (constant S_ .f32 0x3F800000#32)) :=
  (val0_7_keep V0 main_call0_v3 (by decide)).trans (val0_6_main_call0_v3 V0)
theorem val0_7_main_call0_v5 (V0 : Valuation τ sig (Elt F)) : val0_7 V0 (no_index (Proc.devRef .tc main_call0_v5)) = res_main_call0_v5 V0 :=
  (val0_7_keep V0 main_call0_v5 (by decide)).trans (val0_6_main_call0_v5 V0)
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
theorem val0_7_main_call0_call0_v137 (V0 : Valuation τ sig (Elt F)) : val0_7 V0 (no_index (Proc.devRef .tc main_call0_call0_v137)) = addi (res_main_call0_call0_v129 V0) (broadcastInDim S128x100000 ![] bcast_S_S128x100000 (res_main_call0_v7 V0)) := by
  unfold val0_7
  simp only [opsG, TRef.binary, TRef.nullary, TRef.unary, TRef.toBuf, TRef.ofBuf, cast_eq]
  after_results_simp
  simp only [val0_6_main_call0_v7, val0_6_main_call0_call0_v114, val0_6_main_call0_call0_v115] <;> rfl
theorem val0_7_main_call0_call0_v139 (V0 : Valuation τ sig (Elt F)) : val0_7 V0 (no_index (Proc.devRef .tc main_call0_call0_v139)) = addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0)) := by
  unfold val0_7
  simp only [opsG, TRef.binary, TRef.nullary, TRef.unary, TRef.toBuf, TRef.ofBuf, cast_eq]
  after_results_simp
  simp only [val0_6_main_call0_call0_v1, val0_6_main_call0_call0_v114, val0_6_main_call0_call0_v115] <;> rfl

/-- The device's buffer contents after @main's first 240 operations. -/
def val0_8 (V0 : Valuation τ sig (Elt F)) : Valuation τ sig (Elt F) := after opsH (val0_7 V0)
/-- The buffers that window `opsH`'s operations write. -/
abbrev opsH_W : List (Ref sig .tc) := [main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162]
theorem opsH_writes : (opsH : List (HloOp τ sig (Elt F))).Forall fun op => op.writes ⊆ (opsH_W.map (Proc.devRef (τ := τ) .tc)).toFinset :=
  forall_writes_sub_of_map rfl
/-- A buffer that window `opsH` does not write keeps its contents through it. -/
theorem val0_8_keep (V0 : Valuation τ sig (Elt F)) (r : Ref sig .tc) (h : r ∉ opsH_W) :
    val0_8 V0 (Proc.devRef .tc r) = val0_7 V0 (Proc.devRef .tc r) :=
  after_of_writes_sub opsH _ opsH_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_call0_v2 (V0 : Valuation τ sig (Elt F)) : val0_8 V0 (no_index (Proc.devRef .tc main_call0_v2)) = res_main_call0_v2 V0 :=
  (val0_8_keep V0 main_call0_v2 (by decide)).trans (val0_7_main_call0_v2 V0)
theorem val0_8_main_call0_v3 (V0 : Valuation τ sig (Elt F)) : val0_8 V0 (no_index (Proc.devRef .tc main_call0_v3)) = broadcastInDim S1x1 ![] bcast_S_S1x1 (id (constant S_ .f32 0x3F800000#32)) :=
  (val0_8_keep V0 main_call0_v3 (by decide)).trans (val0_7_main_call0_v3 V0)
theorem val0_8_main_call0_v5 (V0 : Valuation τ sig (Elt F)) : val0_8 V0 (no_index (Proc.devRef .tc main_call0_v5)) = res_main_call0_v5 V0 :=
  (val0_8_keep V0 main_call0_v5 (by decide)).trans (val0_7_main_call0_v5 V0)
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
theorem val0_8_main_call0_call0_v156 (V0 : Valuation τ sig (Elt F)) : val0_8 V0 (no_index (Proc.devRef .tc main_call0_call0_v156)) = res_main_call0_call0_v156 V0 := by
  unfold val0_8
  simp only [opsH, TRef.binary, TRef.nullary, TRef.unary, TRef.toBuf, TRef.ofBuf, cast_eq]
  after_results_simp
  simp only [val0_7_main_call0_call0_v139, val0_7_main_call0_call0_v137] <;> rfl
theorem val0_8_main_call0_call0_v162 (V0 : Valuation τ sig (Elt F)) : val0_8 V0 (no_index (Proc.devRef .tc main_call0_call0_v162)) = res_main_call0_call0_v162 V0 := by
  unfold val0_8
  simp only [opsH, TRef.binary, TRef.nullary, TRef.unary, TRef.toBuf, TRef.ofBuf, cast_eq]
  after_results_simp
  simp only [val0_7_main_call0_call0_v139, val0_7_main_call0_call0_v137] <;> rfl

/-- The device's buffer contents after @main's first 270 operations. -/
def val0_9 (V0 : Valuation τ sig (Elt F)) : Valuation τ sig (Elt F) := after opsI (val0_8 V0)
/-- The buffers that window `opsI`'s operations write. -/
abbrev opsI_W : List (Ref sig .tc) := [main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1, main_call0_v20, main_call0_c_2, main_call0_v21, main_call0_v22, main_call0_c_3, main_call0_v23, main_call0_v24, main_call0_v25, main_call0_cst, main_call0_v26, main_call0_v27, main_call0_v28, main_call0_v29, main_call0_v30]
theorem opsI_writes : (opsI : List (HloOp τ sig (Elt F))).Forall fun op => op.writes ⊆ (opsI_W.map (Proc.devRef (τ := τ) .tc)).toFinset :=
  forall_writes_sub_of_map rfl
/-- A buffer that window `opsI` does not write keeps its contents through it. -/
theorem val0_9_keep (V0 : Valuation τ sig (Elt F)) (r : Ref sig .tc) (h : r ∉ opsI_W) :
    val0_9 V0 (Proc.devRef .tc r) = val0_8 V0 (Proc.devRef .tc r) :=
  after_of_writes_sub opsI _ opsI_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_call0_v2 (V0 : Valuation τ sig (Elt F)) : val0_9 V0 (no_index (Proc.devRef .tc main_call0_v2)) = res_main_call0_v2 V0 :=
  (val0_9_keep V0 main_call0_v2 (by decide)).trans (val0_8_main_call0_v2 V0)
theorem val0_9_main_call0_v30 (V0 : Valuation τ sig (Elt F)) : val0_9 V0 (no_index (Proc.devRef .tc main_call0_v30)) = mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0))) := by
  unfold val0_9
  simp only [opsI, TRef.binary, TRef.nullary, TRef.unary, TRef.toBuf, TRef.ofBuf, cast_eq]
  after_results_simp
  simp only [val0_8_main_call0_v2, val0_8_main_call0_v3, val0_8_main_call0_v5, val0_8_main_call0_call0_v162, val0_8_main_call0_call0_v156, val0_8_main_call0_call0_v1] <;> rfl

/-- The device's buffer contents after @main's first 300 operations. -/
def val0_10 (V0 : Valuation τ sig (Elt F)) : Valuation τ sig (Elt F) := after opsJ (val0_9 V0)
/-- The buffers that window `opsJ`'s operations write. -/
abbrev opsJ_W : List (Ref sig .tc) := [main_call0_v31, main_call0_v32, main_call0_v33, main_v7, main_cst_3, main_v8, main_v9, main_v10, main_v11, main_cst_4, main_v12, main_v13, main_v14, main_v15, main_v16, main_cst_5, main_v17, main_v18, main_cst_6, main_v19, main_cst_7, main_v20, main_v21, main_v22, main_v23, main_v24, main_v25, main_cst_8, main_v26, main_v27]
theorem opsJ_writes : (opsJ : List (HloOp τ sig (Elt F))).Forall fun op => op.writes ⊆ (opsJ_W.map (Proc.devRef (τ := τ) .tc)).toFinset :=
  forall_writes_sub_of_map rfl
/-- A buffer that window `opsJ` does not write keeps its contents through it. -/
theorem val0_10_keep (V0 : Valuation τ sig (Elt F)) (r : Ref sig .tc) (h : r ∉ opsJ_W) :
    val0_10 V0 (Proc.devRef .tc r) = val0_9 V0 (Proc.devRef .tc r) :=
  after_of_writes_sub opsJ _ opsJ_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_v25 (V0 : Valuation τ sig (Elt F)) : val0_10 V0 (no_index (Proc.devRef .tc main_v25)) = res_main_v25 V0 := by
  unfold val0_10
  simp only [opsJ, TRef.binary, TRef.unary, TRef.toBuf, TRef.ofBuf, cast_eq]
  after_results_simp
  simp only [val0_9_main_call0_v2, val0_9_main_call0_v30, val0_9_main_arg0] <;> rfl
theorem val0_10_main_v27 (V0 : Valuation τ sig (Elt F)) : val0_10 V0 (no_index (Proc.devRef .tc main_v27)) = broadcastInDim S128x1 ![0] bcast_S128_S128x1_0 (Host.reduceAdd (res_main_v25 V0) (constant S_ .f32 0x00000000#32) reducesTo_S128x100000_S128_d1 h_S_) := by
  unfold val0_10
  simp only [opsJ, TRef.binary, TRef.unary, TRef.toBuf, TRef.ofBuf, cast_eq]
  after_results_simp
  simp only [val0_9_main_call0_v2, val0_9_main_call0_v30, val0_9_main_arg0] <;> rfl

/-- The device's buffer contents after @main's first 1 window. -/
def val1 (V0 : Valuation τ sig (Elt F)) : Valuation τ sig (Elt F) := after opsK (val0_10 V0)
/-- The buffers that window `opsK`'s operations write. -/
abbrev opsK_W : List (Ref sig .tc) := [main_v28, main_v29, main_call1_v0, main_call1_cst, main_call1_c, main_call1_v1_0, main_v30, main_v31, main_cst_9, main_v32, main_c_10, main_v33, main_v34, main_c_11, main_v35, main_v36, main_v37, main_c_12, main_v38, main_v39, main_c_13, main_v40, main_v41, main_v42, main_v43]
theorem opsK_writes : (opsK : List (HloOp τ sig (Elt F))).Forall fun op => op.writes ⊆ (opsK_W.map (Proc.devRef (τ := τ) .tc)).toFinset :=
  forall_writes_sub_of_map rfl
/-- A buffer that window `opsK` does not write keeps its contents through it. -/
theorem val1_keep (V0 : Valuation τ sig (Elt F)) (r : Ref sig .tc) (h : r ∉ opsK_W) :
    val1 V0 (Proc.devRef .tc r) = val0_10 V0 (Proc.devRef .tc r) :=
  after_of_writes_sub opsK _ opsK_writes h
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
theorem val1_main_v29 (V0 : Valuation τ sig (Elt F)) : val1 V0 (no_index (Proc.devRef .tc main_v29)) = res_main_v29 V0 := by
  unfold val1
  simp only [opsK, TRef.nullary, TRef.quaternary, TRef.toBuf, TRef.ofBuf, cast_eq]
  after_results_simp
  simp only [val0_10_main_v27, val0_10_main_v25] <;> rfl
theorem val1_main_v32 (V0 : Valuation τ sig (Elt F)) : val1 V0 (no_index (Proc.devRef .tc main_v32)) = broadcastInDim S128x100000 ![] bcast_S_S128x100000 (constant S_ .f32 0x00000000#32) := by
  unfold val1
  simp only [opsK, TRef.nullary, TRef.quaternary, TRef.toBuf, TRef.ofBuf, cast_eq]
  after_results_simp
  all_goals rfl
theorem val1_main_v42 (V0 : Valuation τ sig (Elt F)) : val1 V0 (no_index (Proc.devRef .tc main_v42)) = select (cmpi .slt (res_main_v30 V0) (broadcastInDim S128 ![] bcast_S_S128 (constantI S_ 32 0#32))) (addi (res_main_v30 V0) (broadcastInDim S128 ![] bcast_S_S128 (constantI S_ 32 100000#32))) (res_main_v30 V0) := by
  unfold val1
  simp only [opsK, TRef.nullary, TRef.quaternary, TRef.toBuf, TRef.ofBuf, cast_eq]
  after_results_simp
  simp only [val0_10_main_v27, val0_10_main_v25] <;> rfl
theorem val1_main_v43 (V0 : Valuation τ sig (Elt F)) : val1 V0 (no_index (Proc.devRef .tc main_v43)) = broadcastInDim S128x1 ![0] bcast_S128_S128x1_0 (select (cmpi .slt (res_main_v31 V0) (broadcastInDim S128 ![] bcast_S_S128 (constantI S_ 32 0#32))) (addi (res_main_v31 V0) (broadcastInDim S128 ![] bcast_S_S128 (constantI S_ 32 128#32))) (res_main_v31 V0)) := by
  unfold val1
  simp only [opsK, TRef.nullary, TRef.quaternary, TRef.toBuf, TRef.ofBuf, cast_eq]
  after_results_simp
  all_goals rfl

/-- The device's buffer contents after @main's first 2 windows. -/
def val2 (V0 : Valuation τ sig (Elt F)) : Valuation τ sig (Elt F) := after opsL (val1 V0)
/-- The buffers that window `main_part1`'s operations write. -/
abbrev opsL_W : List (Ref sig .tc) := [main_v44, main_v45, main_cst_14, main_v46, main_v47, main_v48, main_v49]
theorem opsL_writes : (opsL : List (HloOp τ sig (Elt F))).Forall fun op => op.writes ⊆ (opsL_W.map (Proc.devRef (τ := τ) .tc)).toFinset :=
  forall_writes_sub_of_map rfl
/-- A buffer that window `main_part1` does not write keeps its contents through it. -/
theorem val2_keep (V0 : Valuation τ sig (Elt F)) (r : Ref sig .tc) (h : r ∉ opsL_W) :
    val2 V0 (Proc.devRef .tc r) = val1 V0 (Proc.devRef .tc r) :=
  after_of_writes_sub opsL _ opsL_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_v49 (V0 : Valuation τ sig (Elt F)) : val2 V0 (no_index (Proc.devRef .tc main_v49)) = addf (subf (Host.scatter scatter_S128x100000_S128x2_S128_n_01_01_1 (fun _ b => b) (broadcastInDim S128x100000 ![] bcast_S_S128x100000 (constant S_ .f32 0x00000000#32)) (concatenate S128x2 1 [⟨S128x1, (broadcastInDim S128x1 ![0] bcast_S128_S128x1_0 (select (cmpi .slt (res_main_v31 V0) (broadcastInDim S128 ![] bcast_S_S128 (constantI S_ 32 0#32))) (addi (res_main_v31 V0) (broadcastInDim S128 ![] bcast_S_S128 (constantI S_ 32 128#32))) (res_main_v31 V0)))⟩, ⟨S128x1, (broadcastInDim S128x1 ![0] bcast_S128_S128x1_0 (select (cmpi .slt (res_main_v30 V0) (broadcastInDim S128 ![] bcast_S_S128 (constantI S_ 32 0#32))) (addi (res_main_v30 V0) (broadcastInDim S128 ![] bcast_S_S128 (constantI S_ 32 100000#32))) (res_main_v30 V0)))⟩] concatenates_S128x1_S128x1_S128x2_d1) (broadcastInDim S128 ![] bcast_S_S128 (constant S_ .f32 0x3F800000#32))) (res_main_v29 V0)) (res_main_v29 V0) := by
  unfold val2
  simp only [opsL]
  after_results_simp
  simp only [val1_main_v29, val1_main_v42, val1_main_v43, val1_main_v32] <;> rfl

end Cert.ReferenceIdeal.Value

end
-- ==== Proof.Reference.Run.lean ====
module

public import proofs.«01_k».proof.Proof.Reference.Late
public import Idealize.ShloMosaic.Lib.Quiescent

@[expose] public section

set_option Elab.async false
set_option maxRecDepth 8192
set_option maxHeartbeats 4000000

/-!
The run of the reference: its result as one expression of its argument, and the argument unchanged.
-/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem after_ops (V0 : Valuation τ sig (Elt F)) : after ops V0 = val2 V0 := by
  simp only [ops, opsBody, after_append]
  rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = addf (subf (Host.scatter scatter_S128x100000_S128x2_S128_n_01_01_1 (fun _ b => b) (broadcastInDim S128x100000 ![] bcast_S_S128x100000 (constant S_ .f32 0x00000000#32)) (concatenate S128x2 1 [⟨S128x1, (broadcastInDim S128x1 ![0] bcast_S128_S128x1_0 (select (cmpi .slt (res_main_v31 (launchContents m c)) (broadcastInDim S128 ![] bcast_S_S128 (constantI S_ 32 0#32))) (addi (res_main_v31 (launchContents m c)) (broadcastInDim S128 ![] bcast_S_S128 (constantI S_ 32 128#32))) (res_main_v31 (launchContents m c))))⟩, ⟨S128x1, (broadcastInDim S128x1 ![0] bcast_S128_S128x1_0 (select (cmpi .slt (res_main_v30 (launchContents m c)) (broadcastInDim S128 ![] bcast_S_S128 (constantI S_ 32 0#32))) (addi (res_main_v30 (launchContents m c)) (broadcastInDim S128 ![] bcast_S_S128 (constantI S_ 32 100000#32))) (res_main_v30 (launchContents m c))))⟩] concatenates_S128x1_S128x1_S128x2_d1) (broadcastInDim S128 ![] bcast_S_S128 (constant S_ .f32 0x3F800000#32))) (res_main_v29 (launchContents m c))) (res_main_v29 (launchContents m c))
      ∧ r.2.mem ((c.tc : Thread nD τ).loc main_arg0) = m ((c.tc : Thread nD τ).loc main_arg0) :=
  (θ_run defs _ _).mono (fun _ h c => ⟨(h c main_v49).trans ((congrFun (after_ops (launchContents m c)) (Proc.devRef .tc main_v49)).trans (val2_main_v49 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

/-- The frame of the reference: it ends, the argument is unchanged, and no counter is left up, for it has none. -/
theorem frame_run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run m ρ)

end Cert.ReferenceIdeal.Value

end
-- ==== Proof.Reference.Bits.lean ====
module

public import proofs.«01_k».proof.Proof.Reference.Terms
public import proofs.«01_k».proof.Proof.Draw
public import Idealize.ShloMosaic.Lib.IdealHost
public import Idealize.ShloMosaic.Lib.Pipeline.Value

/-! # The reference's random bits

The reference draws its bits with whole arrays of words.  Element by element its twenty rounds are those of the
position's draw: an array holds the sum of the two words, a second one the second word, and each round takes such a
pair to the next. -/

@[expose] public section

set_option maxRecDepth 8192

noncomputable section

namespace Cert.ReferenceIdeal.Value

open Cert.ReferenceIdeal Cert.ReferenceIdeal.Gen Cert.Draw Idealize.ShloMosaic Idealize.ShloMosaic.TcCoe
  Idealize.SL.Sem Idealize.ShloMosaic.StableHlo

variable {F : FTy → Type} [FloatOps F]

/-- A matrix of words. -/
abbrev Words : Type := IVec S128x100000 32

/-- One scalar word at every element. -/
abbrev every (k : IVec S_ 32) : Words := broadcastInDim S128x100000 ![] bcast_S_S128x100000 k

/-- The second word turned and mixed with the sum. -/
def turn (l r : BitVec 32) (x y : Words) : Words :=
  xori x (ori (Host.shli y (every (constantI S_ 32 l))) (Host.shrui y (every (constantI S_ 32 r))))

/-- At element `p` the two arrays hold the sum of the state's words and its second word. -/
def At (p : S128x100000.Idx) (s : BitVec 32 × BitVec 32) (x y : Words) : Prop := x p = s.1 + s.2 ∧ y p = s.2

theorem turn_apply (l r : BitVec 32) (hl : l.toNat < 32) (hr : r.toNat < 32) (x y : Words) (p : S128x100000.Idx) :
    turn l r x y p = x p ^^^ (y p <<< l ||| y p >>> r) := by
  show x p ^^^ ((if l.toNat < 32 then y p <<< l else _) ||| (if r.toNat < 32 then y p >>> r else _)) = _
  rw [if_pos hl, if_pos hr]

/-- One round. -/
theorem At.next {p : S128x100000.Idx} {s : BitVec 32 × BitVec 32} {x y : Words} (h : At p s x y)
    (l r : BitVec 32) (hl : l.toNat < 32) (hr : r.toNat < 32) :
    At p (mix l r s) (addi x (turn l r x y)) (turn l r x y) := by
  have e : turn l r x y p = (mix l r s).2 := by rw [turn_apply l r hl hr, h.1, h.2]; rfl
  refine ⟨?_, e⟩
  show x p + turn l r x y p = _
  rw [e, h.1]; rfl

/-- A round after which key words and the group's number are added. -/
theorem At.inject {p : S128x100000.Idx} {s : BitVec 32 × BitVec 32} {x y : Words} (h : At p s x y)
    (l r n : BitVec 32) (hl : l.toNat < 32) (hr : r.toNat < 32) {a b : IVec S_ 32} {ka kb : BitVec 32}
    (ha : every a p = ka) (hb : every b p = kb) :
    At p (inj ka kb n (mix l r s))
      (addi (addi x (every a)) (addi (addi (turn l r x y) (every b)) (every (constantI S_ 32 n))))
      (addi (addi (turn l r x y) (every b)) (every (constantI S_ 32 n))) := by
  have e : turn l r x y p = (mix l r s).2 := by rw [turn_apply l r hl hr, h.1, h.2]; rfl
  have e' : (addi (addi (turn l r x y) (every b)) (every (constantI S_ 32 n))) p = (inj ka kb n (mix l r s)).2 := by
    show turn l r x y p + every b p + n = _
    rw [e, hb]; rfl
  refine ⟨?_, e'⟩
  show x p + every a p + (addi (addi (turn l r x y) (every b)) (every (constantI S_ 32 n))) p = _
  rw [e', h.1, ha]; rfl

/-- A matrix's word at an element. -/
abbrev rd (x : Words) (p : S128x100000.Idx) : BitVec 32 := x p

/-- The flat position of an element, as a word. -/
def flat (p : S128x100000.Idx) : BitVec 32 := BitVec.ofNat 32 ((p 0).val * 100000 + (p 1).val)

variable (V : Valuation τ sig (Elt F))

/-! ## The key words -/

/-- The two key words, read out of the pair that holds them. -/
theorem key0 (k : S1.Idx) : extractStridedSlice S1 ![0] (res_main_v6 V : IVec S2 32) slices_S2_S1_0 k = 0#32 := by
  have hk : (k 0).val < 1 := (k 0).isLt
  unfold res_main_v6
  rw [extractStridedSlice_apply _ _ _ k (ValueIdx.ix1 (0 : Fin 2))
    (fun a => by match a with | ⟨0, _⟩ => show 0 = 0 + (k 0).val; omega)]
  refine (concatenate_pair_apply_left (s₁ := S1) (s₂ := S1) (t := S2) 0 _ _ concatenates_S1_S1_S2_d0 _ rfl
    (ValueIdx.ix1 (0 : Fin 1)) (fun b => by match b with | ⟨0, _⟩ => rfl)).trans ?_
  show IntOp.shrui .host 42#32 32#32 = 0#32
  decide
theorem key1 (k : S1.Idx) : extractStridedSlice S1 ![1] (res_main_v6 V : IVec S2 32) slices_S2_S1_1 k = 42#32 := by
  have hk : (k 0).val < 1 := (k 0).isLt
  unfold res_main_v6
  rw [extractStridedSlice_apply _ _ _ k (ValueIdx.ix1 (1 : Fin 2))
    (fun a => by match a with | ⟨0, _⟩ => show 1 = 1 + (k 0).val; omega)]
  refine (concatenate_pair_apply_right (s₁ := S1) (s₂ := S1) (t := S2) 0 _ _ concatenates_S1_S1_S2_d0 _ rfl rfl
    (ValueIdx.ix1 (0 : Fin 1)) (fun b => by match b with | ⟨0, _⟩ => intro h; exact absurd rfl h) rfl).trans ?_
  show 42#32 &&& 4294967295#32 = 42#32
  decide

theorem k0 (p : S128x100000.Idx) : every (res_main_call0_v5 V) p = 0#32 := key0 V _
theorem k1 (p : S128x100000.Idx) : every (res_main_call0_v7 V) p = 42#32 := key1 V _
theorem kx (p : S128x100000.Idx) : every (res_main_call0_call0_v1 V) p = 466689008#32 := by
  have h : every (res_main_call0_call0_v1 V) p
      = (every (res_main_call0_v5 V) p ^^^ every (res_main_call0_v7 V) p) ^^^ 466688986#32 := rfl
  rw [h, k0, k1]; rfl

/-! ## The counter -/

/-- The matrix of 64-bit positions. -/
abbrev place : IVec S128x100000 64 := res_main_call0_v14 V

/-- The 64-bit position of an element. -/
theorem pos64 (p : S128x100000.Idx) :
    (place V) p = BitVec.ofNat 64 ((p 0).val * 100000 + (p 1).val) := by
  have h : (place V) p
      = BitVec.ofNat 64 100000 * BitVec.ofNat 64 (p 0).val + BitVec.ofNat 64 1 * BitVec.ofNat 64 (p 1).val := rfl
  rw [h, ← BitVec.ofNat_mul, ← BitVec.ofNat_mul, ← BitVec.ofNat_add]
  refine congrArg (BitVec.ofNat 64) ?_; omega

theorem pos_lt (p : S128x100000.Idx) : (p 0).val * 100000 + (p 1).val < 12800000 := by
  have h0 : (p 0).val < 128 := (p 0).isLt
  have h1 : (p 1).val < 100000 := (p 1).isLt
  omega

theorem at0 (p : S128x100000.Idx) : At p (st0 (flat p)) (res_main_call0_call0_v6 V) (res_main_call0_call0_v5 V) := by
  have hp := pos_lt p
  have low : ((place V) p).setWidth 32 = flat p := by
    rw [pos64]; unfold flat
    apply BitVec.eq_of_toNat_eq
    rw [BitVec.toNat_setWidth, BitVec.toNat_ofNat, BitVec.toNat_ofNat]
    omega
  have high : (((place V) p) >>> (32#64)).setWidth 32 = 0#32 := by
    rw [pos64]
    apply BitVec.eq_of_toNat_eq
    rw [BitVec.toNat_setWidth, BitVec.ushiftRight_eq', BitVec.toNat_ushiftRight, BitVec.toNat_ofNat,
      Nat.shiftRight_eq_div_pow, show (32#64 : BitVec 64).toNat = 32 from rfl]
    show _ = 0
    omega
  have e5 : rd (res_main_call0_call0_v5 V) p = (st0 (flat p)).2 := by
    show ((place V) p).setWidth 32 + every (res_main_call0_v7 V) p = _
    rw [low, k1]; rfl
  refine ⟨?_, e5⟩
  have eh : (IntOp.shrui .host (place V p) 32#64).setWidth 32 = 0#32 := by
    unfold IntOp.shrui; rw [if_pos (by decide)]; exact high
  show ((IntOp.shrui .host (place V p) 32#64).setWidth 32
    + every (res_main_call0_v5 V) p) + rd (res_main_call0_call0_v5 V) p = _
  rw [eh, k0, e5]; rfl

/-! ## The rounds -/

theorem at1 (p : S128x100000.Idx) : At p (st1 (flat p)) (res_main_call0_call0_v13 V) (res_main_call0_call0_v12 V) :=
  (at0 V p).next 13#32 19#32 (by decide) (by decide)
theorem at2 (p : S128x100000.Idx) : At p (st2 (flat p)) (res_main_call0_call0_v20 V) (res_main_call0_call0_v19 V) :=
  (at1 V p).next 15#32 17#32 (by decide) (by decide)
theorem at3 (p : S128x100000.Idx) : At p (st3 (flat p)) (res_main_call0_call0_v27 V) (res_main_call0_call0_v26 V) :=
  (at2 V p).next 26#32 6#32 (by decide) (by decide)
theorem at4 (p : S128x100000.Idx) : At p (st4 (flat p)) (res_main_call0_call0_v40 V) (res_main_call0_call0_v39 V) :=
  (at3 V p).inject 6#32 26#32 1#32 (by decide) (by decide) (k1 V p) (kx V p)
theorem at5 (p : S128x100000.Idx) : At p (st5 (flat p)) (res_main_call0_call0_v47 V) (res_main_call0_call0_v46 V) :=
  (at4 V p).next 17#32 15#32 (by decide) (by decide)
theorem at6 (p : S128x100000.Idx) : At p (st6 (flat p)) (res_main_call0_call0_v54 V) (res_main_call0_call0_v53 V) :=
  (at5 V p).next 29#32 3#32 (by decide) (by decide)
theorem at7 (p : S128x100000.Idx) : At p (st7 (flat p)) (res_main_call0_call0_v61 V) (res_main_call0_call0_v60 V) :=
  (at6 V p).next 16#32 16#32 (by decide) (by decide)
theorem at8 (p : S128x100000.Idx) : At p (st8 (flat p)) (res_main_call0_call0_v74 V) (res_main_call0_call0_v73 V) :=
  (at7 V p).inject 24#32 8#32 2#32 (by decide) (by decide) (kx V p) (k0 V p)
theorem at9 (p : S128x100000.Idx) : At p (st9 (flat p)) (res_main_call0_call0_v81 V) (res_main_call0_call0_v80 V) :=
  (at8 V p).next 13#32 19#32 (by decide) (by decide)
theorem at10 (p : S128x100000.Idx) : At p (st10 (flat p)) (res_main_call0_call0_v88 V) (res_main_call0_call0_v87 V) :=
  (at9 V p).next 15#32 17#32 (by decide) (by decide)
theorem at11 (p : S128x100000.Idx) : At p (st11 (flat p)) (res_main_call0_call0_v95 V) (res_main_call0_call0_v94 V) :=
  (at10 V p).next 26#32 6#32 (by decide) (by decide)
theorem at12 (p : S128x100000.Idx) : At p (st12 (flat p)) (res_main_call0_call0_v108 V) (res_main_call0_call0_v107 V) :=
  (at11 V p).inject 6#32 26#32 3#32 (by decide) (by decide) (k0 V p) (k1 V p)
theorem at13 (p : S128x100000.Idx) : At p (st13 (flat p)) (res_main_call0_call0_v115 V) (res_main_call0_call0_v114 V) :=
  (at12 V p).next 17#32 15#32 (by decide) (by decide)
theorem at14 (p : S128x100000.Idx) : At p (st14 (flat p)) (res_main_call0_call0_v122 V) (res_main_call0_call0_v121 V) :=
  (at13 V p).next 29#32 3#32 (by decide) (by decide)
theorem at15 (p : S128x100000.Idx) : At p (st15 (flat p)) (res_main_call0_call0_v129 V) (res_main_call0_call0_v128 V) :=
  (at14 V p).next 16#32 16#32 (by decide) (by decide)
theorem at16 (p : S128x100000.Idx) : At p (st16 (flat p)) (res_main_call0_call0_v142 V) (res_main_call0_call0_v141 V) :=
  (at15 V p).inject 24#32 8#32 4#32 (by decide) (by decide) (k1 V p) (kx V p)
theorem at17 (p : S128x100000.Idx) : At p (st17 (flat p)) (res_main_call0_call0_v149 V) (res_main_call0_call0_v148 V) :=
  (at16 V p).next 13#32 19#32 (by decide) (by decide)
theorem at18 (p : S128x100000.Idx) : At p (st18 (flat p)) (res_main_call0_call0_v156 V) (res_main_call0_call0_v155 V) :=
  (at17 V p).next 15#32 17#32 (by decide) (by decide)
theorem at19 (p : S128x100000.Idx) : At p (st19 (flat p)) (res_main_call0_call0_v163 V) (res_main_call0_call0_v162 V) :=
  (at18 V p).next 26#32 6#32 (by decide) (by decide)

/-- The 32 random bits of an element. -/
theorem bits_apply (p : S128x100000.Idx) :
    xori (addi (res_main_call0_call0_v163 V) (every (res_main_call0_call0_v1 V)))
      (addi (addi (turn 6#32 26#32 (res_main_call0_call0_v163 V) (res_main_call0_call0_v162 V)) (every (res_main_call0_v5 V)))
        (every (constantI S_ 32 5#32))) p = bits (flat p) := by
  have h := at19 V p
  have e : turn 6#32 26#32 (res_main_call0_call0_v163 V) (res_main_call0_call0_v162 V) p = (mix 6#32 26#32 (st19 (flat p))).2 := by
    rw [turn_apply _ _ (by decide) (by decide), h.1, h.2]; rfl
  show (rd (res_main_call0_call0_v163 V) p + every (res_main_call0_call0_v1 V) p)
    ^^^ (turn 6#32 26#32 (res_main_call0_call0_v163 V) (res_main_call0_call0_v162 V) p + every (res_main_call0_v5 V) p + 5#32) = _
  rw [e, show rd (res_main_call0_call0_v163 V) p = _ from h.1, kx, k0]; rfl

end Cert.ReferenceIdeal.Value

end
-- ==== Proof.Reference.Noisy.lean ====
module

public import proofs.«01_k».proof.Proof.Reference.Bits
public import proofs.«01_k».proof.Proof.Value.DrawReal

/-! # The reference's noisy logits

Over the extended reals an element of the noisy logits is the logit plus the Gumbel number of its flat position.  The
reference scales its uniform number to the range from 0 to 1, bounds it below by 0 and divides by the temperature 1:
none of these changes anything. -/

@[expose] public section

set_option maxRecDepth 8192

noncomputable section

namespace Cert.ReferenceIdeal.Value

open Cert.ReferenceIdeal Cert.ReferenceIdeal.Gen Cert.Draw Idealize.ShloMosaic Idealize.ShloMosaic.TcCoe
  Idealize.SL.Sem Idealize.ShloMosaic.StableHlo

variable (V : Valuation τ sig (Elt Ideal))

/-- The logits, as a matrix of extended reals. -/
abbrev logit (p : S128x100000.Idx) : EReal := (V (Proc.devRef .tc main_arg0) : FVec Ideal S128x100000 .f32) p

/-- The chain of operations from the random bits to a noisy logit. -/
def chain (x : EReal) (b : BitVec 32) : EReal :=
  Ideal.div (x + -(Ideal.log (-(Ideal.log
    (max (Ideal.ofBits .f32 0x00000000#32)
      ((Ideal.ofBits .f32 (IntOp.shrui .host b 9#32 ||| 1065353216#32) - Ideal.ofBits .f32 0x3F800000#32)
        * (Ideal.ofBits .f32 0x3F800000#32 - Ideal.ofBits .f32 0x00000000#32) + Ideal.ofBits .f32 0x00000000#32)
      + Ideal.ofBits .f32 0x1E3CE508#32)) + Ideal.ofBits .f32 0x1E3CE508#32))) (Ideal.ofBits .f32 0x3F800000#32)

/-- The chain is the logit plus the Gumbel number of the bits. -/
theorem chain_eq (x : EReal) (b : BitVec 32) :
    chain x b = x + neglog (F := Ideal) (addeps (neglog (addeps (unif b)))) := by
  obtain ⟨u, h0, -, hu⟩ := unif_real b
  have e : Ideal.ofBits .f32 (IntOp.shrui .host b 9#32 ||| 1065353216#32) - Ideal.ofBits .f32 0x3F800000#32
      = ((u : ℝ) : EReal) := by
    have : IntOp.shrui .host b 9#32 = b >>> 9#32 := by unfold IntOp.shrui; rw [if_pos (by decide)]
    rw [this]; exact hu
  have n (y : EReal) : neglog (F := Ideal) y = -(Ideal.log y) := by
    show Ideal.ofBits .f32 0x00000000#32 - Ideal.log y = _
    rw [Ideal.ofBits_zero_f32, zero_sub]
  unfold chain
  rw [e, n, n, hu, Ideal.ofBits_zero_f32, Ideal.ofBits_one_f32, sub_zero, mul_one, add_zero,
    max_eq_right (EReal.coe_nonneg.mpr h0)]
  unfold Ideal.div
  rw [if_neg one_ne_zero, inv_one, mul_one]
  rfl

/-- Zero, as the one-element matrix that the reference keeps it in. -/
abbrev zero11 : FVec Ideal S1x1 .f32 := broadcastInDim S1x1 ![] bcast_S_S1x1 (id (constant S_ .f32 0x00000000#32))
/-- One scalar number at every element. -/
abbrev everyF (k : FVec Ideal S_ .f32) : FVec Ideal S128x100000 .f32 := broadcastInDim S128x100000 ![] bcast_S_S128x100000 k
/-- The one number of a one-element matrix at every element. -/
abbrev every11 (k : FVec Ideal S1x1 .f32) : FVec Ideal S128x100000 .f32 :=
  broadcastInDim S128x100000 ![0, 1] bcast_S1x1_S128x100000_0_1 k

/-- The number made of the bits, in the reference's range. -/
abbrev uniforms (B : Words) : FVec Ideal S128x100000 .f32 :=
  maximumf (every11 zero11) (addf (mulf (subf (bitcastToFloat (F := Ideal) .f32
      (ori (Host.shrui B (every (constantI S_ 32 9#32))) (every (constantI S_ 32 1065353216#32))))
      (everyF (constant S_ .f32 0x3F800000#32)))
    (every11 (subf (broadcastInDim S1x1 ![] bcast_S_S1x1 (id (constant S_ .f32 0x3F800000#32))) zero11)))
    (every11 zero11))

theorem uniforms_apply (B : Words) (p : S128x100000.Idx) : uniforms B p
    = max (Ideal.ofBits .f32 0x00000000#32)
      ((Ideal.ofBits .f32 (IntOp.shrui .host (B p) 9#32 ||| 1065353216#32) - Ideal.ofBits .f32 0x3F800000#32)
        * (Ideal.ofBits .f32 0x3F800000#32 - Ideal.ofBits .f32 0x00000000#32) + Ideal.ofBits .f32 0x00000000#32) := by
  simp only [uniforms, maximumf, addf, mulf, subf]
  rfl

/-- The two logarithms, the sum and the division. -/
abbrev noised (X U : FVec Ideal S128x100000 .f32) : FVec Ideal S128x100000 .f32 :=
  Host.divf (addf X (Host.negf (Host.log (addf (Host.negf (Host.log (addf U
    (everyF (constant S_ .f32 0x1E3CE508#32))))) (everyF (constant S_ .f32 0x1E3CE508#32))))))
    (everyF (constant S_ .f32 0x3F800000#32))

theorem noised_apply (X U : FVec Ideal S128x100000 .f32) (p : S128x100000.Idx) : noised X U p
    = Ideal.div (X p + -(Ideal.log (-(Ideal.log (U p + Ideal.ofBits .f32 0x1E3CE508#32))
        + Ideal.ofBits .f32 0x1E3CE508#32))) (Ideal.ofBits .f32 0x3F800000#32) := rfl

/-- The array of the bits. -/
abbrev bitsArr : Words :=
  xori (addi (res_main_call0_call0_v163 V) (every (res_main_call0_call0_v1 V)))
    (addi (addi (turn 6#32 26#32 (res_main_call0_call0_v163 V) (res_main_call0_call0_v162 V)) (every (res_main_call0_v5 V)))
      (every (constantI S_ 32 5#32)))

theorem res_main_v18_eq : (res_main_v18 V : FVec Ideal S128x100000 .f32)
    = noised (V (Proc.devRef .tc main_arg0)) (uniforms (bitsArr V)) := by
  unfold res_main_v18 res_main_call0_v2
  rfl

/-- An element of the noisy logits. -/
theorem noisy_eq (p : S128x100000.Idx) :
    (res_main_v18 V : FVec Ideal S128x100000 .f32) p = logit V p + gum (F := Ideal) (flat p) := by
  refine Eq.trans ?_ (chain_eq (logit V p) (bits (flat p)))
  rw [res_main_v18_eq, noised_apply, uniforms_apply, show bitsArr V p = bits (flat p) from bits_apply V p]
  rfl

end Cert.ReferenceIdeal.Value

end
-- ==== Proof.Reference.Softmax.lean ====
module

public import proofs.«01_k».proof.Proof.Reference.Noisy
public import proofs.«01_k».proof.Proof.Value.Softmax

/-! # The reference's softmax

A row of the reference's softmax is, for good logits, a row of reals in the order of the noisy logits. -/

@[expose] public section

set_option maxRecDepth 8192

noncomputable section

namespace Cert.ReferenceIdeal.Value

open Cert.ReferenceIdeal Cert.ReferenceIdeal.Gen Cert.Draw Cert.Value Idealize.ShloMosaic Idealize.ShloMosaic.TcCoe
  Idealize.ShloMosaic.ValueIdx Idealize.SL.Sem Idealize.ShloMosaic.StableHlo

/-- The fold of `max` from `-∞` over values whose largest is `M`. -/
theorem fold_max_eq {n : ℕ} (f : Fin n → EReal) (M : EReal) (h1 : ∀ c, f c ≤ M) (h2 : ∃ c, f c = M) :
    (Finset.univ : Finset (Fin n)).fold max ⊥ f = M := by
  refine le_antisymm (Finset.fold_max_le M |>.mpr ⟨bot_le, fun c _ => h1 c⟩) ?_
  obtain ⟨c, hc⟩ := h2
  exact (Finset.le_fold_max M).mpr (Or.inr ⟨c, Finset.mem_univ c, hc.ge⟩)

/-- A row index is a column put in. -/
theorem reduces : S128x100000.Reduces [1] S128 := by decide

theorem lift_eq (j : S128.Idx) (k : Fin 100000) : reduces.lift j k = ix2 (j 0) k :=
  funext fun a => Fin.ext (by match a with | ⟨0, _⟩ => rfl | ⟨1, _⟩ => rfl)

/-- The pattern of `-∞`. -/
theorem ofBits_neg_inf : Ideal.ofBits .f32 0xFF800000#32 = ⊥ := by simp [Ideal.ofBits, Ideal.ieee]

/-- The row maxima of a matrix. -/
theorem reduce_max_apply (Z : FVec Ideal S128x100000 .f32) (j : S128.Idx) :
    Host.reduce FloatOps.maximumf Z (constant (F := Ideal) S_ .f32 0xFF800000#32) reducesTo_S128x100000_S128_d1 h_S_ j
      = (Finset.univ : Finset (Fin 100000)).fold max ⊥ fun k => Z (ix2 (j 0) k) := by
  rw [Host.reduce_eq_fold_single _ _ _ _ reduces]
  show Finset.fold max (Ideal.ofBits .f32 0xFF800000#32) (Z ∘ reduces.lift j) Finset.univ = _
  rw [ofBits_neg_inf]
  exact congrArg (fun f : Fin 100000 → EReal => Finset.fold max ⊥ f Finset.univ) (funext fun k => congrArg Z (lift_eq j k))

/-- The row sums of a matrix. -/
theorem reduce_add_apply (Z : FVec Ideal S128x100000 .f32) (j : S128.Idx) :
    Host.reduceAdd Z (constant (F := Ideal) S_ .f32 0x00000000#32) reducesTo_S128x100000_S128_d1 h_S_ j
      = ∑ k : Fin 100000, Z (ix2 (j 0) k) := by
  rw [hostReduceAdd_apply, Ideal.hostReduceAdd_single _ reduces]
  show Ideal.ofBits .f32 0x00000000#32 + ∑ k : Fin 100000, Z (reduces.lift j k) = _
  rw [Ideal.ofBits_zero_f32, zero_add]
  exact Finset.sum_congr rfl fun k _ => congrArg Z (lift_eq j k)

/-- One number per row, at every element of the row. -/
abbrev perRow (v : FVec Ideal S128 .f32) : FVec Ideal S128x100000 .f32 :=
  broadcastInDim S128x100000 ![0, 1] bcast_S128x1_S128x100000_0_1 (broadcastInDim S128x1 ![0] bcast_S128_S128x1_0 v)

theorem perRow_apply (v : FVec Ideal S128 .f32) (r : Fin 128) (c : Fin 100000) : perRow v (ix2 r c) = v (ix1 r) := by
  refine congrArg v (funext fun a => Fin.ext ?_)
  match a with | ⟨0, _⟩ => rfl

/-- The exponentials, of the noisy logits. -/
def exps (Z : FVec Ideal S128x100000 .f32) : FVec Ideal S128x100000 .f32 :=
  Host.exp (subf Z (perRow (maximumf (broadcastInDim S128 ![] bcast_S_S128 (constant S_ .f32 0xFF800000#32))
    (Host.reduce FloatOps.maximumf Z (constant S_ .f32 0xFF800000#32) reducesTo_S128x100000_S128_d1 h_S_))))

/-- The quotients, of the exponentials. -/
def quots (E : FVec Ideal S128x100000 .f32) : FVec Ideal S128x100000 .f32 :=
  Host.divf E (perRow (Host.reduceAdd E (constant S_ .f32 0x00000000#32) reducesTo_S128x100000_S128_d1 h_S_))

theorem exp_sub_apply (Z : FVec Ideal S128x100000 .f32) (m : FVec Ideal S128 .f32) (r : Fin 128) (c : Fin 100000) :
    Host.exp (subf Z (perRow m)) (ix2 r c) = Ideal.exp (Z (ix2 r c) - m (ix1 r)) :=
  congrArg (fun t => Ideal.exp (Z (ix2 r c) - t)) (perRow_apply m r c)

theorem div_row_apply (E : FVec Ideal S128x100000 .f32) (m : FVec Ideal S128 .f32) (r : Fin 128) (c : Fin 100000) :
    Host.divf E (perRow m) (ix2 r c) = Ideal.div (E (ix2 r c)) (m (ix1 r)) :=
  congrArg (fun t => Ideal.div (E (ix2 r c)) t) (perRow_apply m r c)

theorem max_bot_apply (m : FVec Ideal S128 .f32) (j : S128.Idx) :
    maximumf (broadcastInDim S128 ![] bcast_S_S128 (constant (F := Ideal) S_ .f32 0xFF800000#32)) m j = m j := by
  have h : maximumf (broadcastInDim S128 ![] bcast_S_S128 (constant (F := Ideal) S_ .f32 0xFF800000#32)) m j
    = max (Ideal.ofBits .f32 0xFF800000#32) (m j) := rfl
  rw [h, ofBits_neg_inf, max_eq_right bot_le]

/-- The exponential of the difference to the row's maximum. -/
theorem exps_apply (Z : FVec Ideal S128x100000 .f32) (r : Fin 128) (M : EReal) (h1 : ∀ c, Z (ix2 r c) ≤ M)
    (h2 : ∃ c, Z (ix2 r c) = M) (c : Fin 100000) : exps Z (ix2 r c) = Ideal.exp (Z (ix2 r c) - M) := by
  unfold exps
  rw [exp_sub_apply, max_bot_apply, reduce_max_apply]
  exact congrArg (fun t => Ideal.exp (Z (ix2 r c) - t)) (fold_max_eq (fun k => Z (ix2 r k)) M h1 h2)

theorem quots_apply (E : FVec Ideal S128x100000 .f32) (r : Fin 128) (c : Fin 100000) :
    quots E (ix2 r c) = Ideal.div (E (ix2 r c)) (∑ k : Fin 100000, E (ix2 r k)) := by
  unfold quots
  rw [div_row_apply, reduce_add_apply]

variable (V : Valuation τ sig (Elt Ideal))

/-- The noisy logits, their exponentials, and the softmax. -/
def zArr : FVec Ideal S128x100000 .f32 := res_main_v18 V
def eArr : FVec Ideal S128x100000 .f32 := res_main_v25 V
def yArr : FVec Ideal S128x100000 .f32 := res_main_v29 V
/-- The logits. -/
def xArr : FVec Ideal S128x100000 .f32 := V (Proc.devRef .tc main_arg0)

/-- The noisy logits are the common ones. -/
theorem zArr_eq (r : Fin 128) (c : Fin 100000) : zArr V (ix2 r c) = z (xArr V) r c := noisy_eq V (ix2 r c)
theorem eArr_eq : eArr V = exps (zArr V) := rfl
theorem yArr_eq : yArr V = quots (eArr V) := rfl

/-- A row of the softmax: a row of reals, at least 0, in the order of the noisy logits. -/
theorem softmax_row (hV : Good (xArr V)) (r : Fin 128) :
    ∃ y : Fin 100000 → ℝ, (∀ c, yArr V (ix2 r c) = ((y c : ℝ) : EReal))
      ∧ (∀ c, 0 ≤ y c) ∧ ∀ c d, y c < y d ↔ z (xArr V) r c < z (xArr V) r d := by
  obtain ⟨hv, hb⟩ := z_good hV r
  obtain ⟨M, hM, hM'⟩ := exists_max _ hv hb
  refine ⟨quot _ M, fun c => ?_, quot_nonneg _ M hM', quot_lt _ M hv hM'⟩
  have e25 (c : Fin 100000) : eArr V (ix2 r c) = Ideal.exp (z (xArr V) r c - ((M : ℝ) : EReal)) := by
    rw [eArr_eq, exps_apply (zArr V) r ((M : ℝ) : EReal) (fun c => (zArr_eq V r c).le.trans (hM c))
      (hM'.imp fun c hc => (zArr_eq V r c).trans hc), zArr_eq]
  rw [yArr_eq, quots_apply, e25, Finset.sum_congr rfl fun k _ => e25 k]
  exact softmax_eq _ M hv hM' c

end Cert.ReferenceIdeal.Value

end
-- ==== Proof.Reference.Argmax.lean ====
module

public import proofs.«01_k».proof.Proof.Reference.Softmax

/-! # The reference's column

The reference takes, per row, the column of the largest softmax value, the least one among equals.  It does so by a fold
over pairs of a value and a column that keeps the better of two pairs: the larger value, and at equal values the smaller
column. -/

@[expose] public section

set_option maxRecDepth 8192

noncomputable section

namespace Cert.ReferenceIdeal.Value

open Cert.ReferenceIdeal Cert.ReferenceIdeal.Gen Cert.Draw Cert.Value Idealize.ShloMosaic Idealize.ShloMosaic.TcCoe
  Idealize.ShloMosaic.ValueIdx Idealize.SL.Sem Idealize.ShloMosaic.StableHlo

/-- `a` is better than `b`. -/
def Better (a b : EReal × BitVec 32) : Prop := b.1 < a.1 ∨ (a.1 = b.1 ∧ a.2.toInt < b.2.toInt)

open Classical in
/-- The reducer keeps the first pair if it is better, and else the second. -/
theorem reducer_eq (a b : EReal × BitVec 32) :
    reducer_argmax_f32_i32 (F := Ideal) a b = if Better a b then a else b := by
  obtain ⟨x, i⟩ := a
  obtain ⟨y, j⟩ := b
  have e : reducer_argmax_f32_i32 (F := Ideal) (x, i) (y, j)
      = (Scalar.select (BitVec.ofBool (decide (y < x)) ||| BitVec.ofBool (decide (x ≠ x))) x y,
         Scalar.select ((BitVec.ofBool (decide (y < x)) ||| BitVec.ofBool (decide (x ≠ x)))
            ||| (BitVec.ofBool (decide (x = y)) &&& BitVec.ofBool (i.slt j))) i j) := rfl
  have sel {α : Type} (b : Bool) (u v : α) : Scalar.select (BitVec.ofBool b) u v = if b = true then u else v := by
    cases b <;> rfl
  rw [e, BitVec.ofBool_or_ofBool, BitVec.ofBool_and_ofBool, BitVec.ofBool_or_ofBool, sel, sel]
  unfold Better
  rw [BitVec.slt_eq_decide]
  by_cases h1 : y < x
  · simp [h1]
  · by_cases h2 : x = y
    · subst h2
      by_cases h3 : i.toInt < j.toInt <;> simp [h3]
    · simp [h1, h2]

theorem not_better_trans {a b c : EReal × BitVec 32} (h1 : ¬ Better a b) (h2 : ¬ Better b c) : ¬ Better a c := by
  unfold Better at *
  push Not at h1 h2 ⊢
  refine ⟨h1.1.trans h2.1, fun e => ?_⟩
  have e1 : a.1 = b.1 := le_antisymm h1.1 (e ▸ h2.1)
  have e2 : b.1 = c.1 := e1 ▸ e
  exact (h2.2 e2).trans (h1.2 e1)

theorem not_better_self (a : EReal × BitVec 32) : ¬ Better a a := by
  unfold Better; push Not; exact ⟨le_refl _, fun _ => le_refl _⟩

theorem not_better_of_better {a b : EReal × BitVec 32} (h : Better a b) : ¬ Better b a := by
  unfold Better at *; push Not
  rcases h with h | ⟨e, h⟩
  · exact ⟨h.le, fun e => absurd e h.ne⟩
  · exact ⟨e.ge, fun _ => h.le⟩

/-- The fold's result is the initial pair or one of the list, and no pair of the list is better. -/
theorem fold_best (l : List (EReal × BitVec 32)) (a : EReal × BitVec 32) :
    (l.foldl (reducer_argmax_f32_i32 (F := Ideal)) a = a ∨ l.foldl (reducer_argmax_f32_i32 (F := Ideal)) a ∈ l)
      ∧ ¬ Better a (l.foldl (reducer_argmax_f32_i32 (F := Ideal)) a)
      ∧ ∀ p ∈ l, ¬ Better p (l.foldl (reducer_argmax_f32_i32 (F := Ideal)) a) := by
  classical
  induction l generalizing a with
  | nil => exact ⟨Or.inl rfl, not_better_self a, fun p hp => by cases hp⟩
  | cons q l ih =>
    rw [List.foldl_cons, reducer_eq]
    by_cases h : Better a q
    · rw [if_pos h]
      obtain ⟨i1, i2, i3⟩ := ih a
      refine ⟨i1.imp_right (List.mem_cons_of_mem q), i2, fun p hp => ?_⟩
      rcases List.mem_cons.mp hp with rfl | hp
      · exact not_better_trans (not_better_of_better h) i2
      · exact i3 p hp
    · rw [if_neg h]
      obtain ⟨i1, i2, i3⟩ := ih q
      refine ⟨Or.inr ?_, not_better_trans h i2, fun p hp => ?_⟩
      · rcases i1 with e | e
        · rw [e]; exact List.mem_cons_self
        · exact List.mem_cons_of_mem q e
      · rcases List.mem_cons.mp hp with rfl | hp
        · exact i2
        · exact i3 p hp

/-- The columns, as words. -/
def cols : IVec S128x100000 32 := iotaInDim S128x100000 32 1

theorem cols_apply (r : Fin 128) (c : Fin 100000) : cols (ix2 r c) = BitVec.ofNat 32 c.val := rfl

theorem toInt_col (c : Fin 100000) : (BitVec.ofNat 32 c.val).toInt = (c.val : ℤ) := by
  have := c.isLt
  rw [BitVec.toInt_eq_toNat_of_lt] <;> simp only [BitVec.toNat_ofNat] <;> omega

/-- The pairs that the fold at `j` runs over, at any shapes. -/
theorem mem_fiber_iff {α β : Type} {s t : Shape} {axes : List (Fin s.rank)} (X : s.Idx → α) (Y : s.Idx → β)
    (h : s.ReducesTo axes t) (j : t.Idx) (p : α × β) :
    p ∈ Host.argReduceFiber X Y h j ↔ ∃ i, h.drop i = j ∧ p = (X i, Y i) := by
  unfold Host.argReduceFiber
  rw [List.mem_map]
  constructor
  · rintro ⟨n, hn, rfl⟩
    rw [List.mem_filter] at hn
    exact ⟨_, of_decide_eq_true hn.2, rfl⟩
  · rintro ⟨i, hi, rfl⟩
    refine ⟨s.rowMajor i, List.mem_filter.mpr ⟨List.mem_finRange _, ?_⟩, ?_⟩
    · rw [Equiv.symm_apply_apply]; exact decide_eq_true hi
    · rw [Equiv.symm_apply_apply]

/-- The elements that a row index stands for. -/
theorem drop_iff (i : S128x100000.Idx) (r : Fin 128) :
    reducesTo_S128x100000_S128_d1.drop i = ix1 r ↔ i 0 = r := by
  rw [Shape.ReducesTo.drop_eq_drop reducesTo_S128x100000_S128_d1 reduces]
  constructor
  · intro h; exact congrFun h 0
  · intro h; funext a; match a with | ⟨0, _⟩ => exact h

/-- The pairs that the fold of row `r` runs over. -/
theorem mem_fiber (Y : FVec Ideal S128x100000 .f32) (r : Fin 128) (p : EReal × BitVec 32) :
    p ∈ Host.argReduceFiber Y cols reducesTo_S128x100000_S128_d1 (ix1 r)
      ↔ ∃ c : Fin 100000, p = (Y (ix2 r c), BitVec.ofNat 32 c.val) := by
  rw [mem_fiber_iff]
  constructor
  · rintro ⟨i, hi, rfl⟩
    have e : i = ix2 r (i 1) := by
      funext a; match a with | ⟨0, _⟩ => exact (drop_iff i r).mp hi | ⟨1, _⟩ => rfl
    refine ⟨i 1, ?_⟩
    exact congrArg (fun i => (Y i, cols i)) e
  · rintro ⟨c, rfl⟩
    exact ⟨ix2 r c, (drop_iff _ r).mpr rfl, rfl⟩

/-- The best pair of a fold, at any shapes: it is the initial pair or one of those folded, and none of these is better. -/
theorem whereBest_spec {s t u : Shape} {axes : List (Fin s.rank)} (x : FVec Ideal s .f32) (y : IVec s 32)
    (ix : FVec Ideal u .f32) (iy : IVec u 32) (h : s.ReducesTo axes t) (hu : 0 < u.numel) (j : t.Idx) :
    ∃ p : EReal × BitVec 32, whereBest (F := Ideal) (reducer_argmax_f32_i32 (F := Ideal)) x y ix iy h hu j = p.2
      ∧ (p = (ix (Shape.Idx.first hu), iy (Shape.Idx.first hu)) ∨ p ∈ Host.argReduceFiber x y h j)
      ∧ ∀ q ∈ Host.argReduceFiber x y h j, ¬ Better q p := by
  obtain ⟨i1, _, i3⟩ := fold_best (Host.argReduceFiber x y h j) (ix (Shape.Idx.first hu), iy (Shape.Idx.first hu))
  refine ⟨_, ?_, i1, i3⟩
  unfold whereBest
  rw [Ideal.argReduce_eq_reduce2, Host.reduce2_eq_foldl_fiber]

/-- The column that the fold of row `r` ends with, where the row's values are at least 0: the least column of the
largest value. -/
theorem argWhere_isTop (Y : FVec Ideal S128x100000 .f32) (r : Fin 128) (h0 : ∀ c, 0 ≤ Y (ix2 r c)) :
    ∃ c : Fin 100000, argWhere (F := Ideal) Y cols (constant (F := Ideal) S_ .f32 0xFF800000#32) (constantI S_ 32 0#32) (ix1 r)
        = BitVec.ofNat 32 c.val ∧ IsTop (fun k => Y (ix2 r k)) c := by
  have hu : (constant (F := Ideal) S_ .f32 0xFF800000#32) (Shape.Idx.first h_S_) = ⊥ := ofBits_neg_inf
  obtain ⟨p, e, i1, i3⟩ := whereBest_spec Y cols (constant (F := Ideal) S_ .f32 0xFF800000#32) (constantI S_ 32 0#32)
    reducesTo_S128x100000_S128_d1 h_S_ (ix1 r)
  rw [hu] at i1
  have nb (d : Fin 100000) : ¬ Better (Y (ix2 r d), BitVec.ofNat 32 d.val) p := i3 _ ((mem_fiber Y r _).mpr ⟨d, rfl⟩)
  have hp : ∃ c : Fin 100000, p = (Y (ix2 r c), BitVec.ofNat 32 c.val) := by
    rcases i1 with rfl | h
    · refine absurd (Or.inl ?_) (nb 0)
      exact lt_of_lt_of_le EReal.bot_lt_zero (h0 0)
    · exact (mem_fiber Y r p).mp h
  obtain ⟨c, rfl⟩ := hp
  refine ⟨c, e, fun d => not_lt.mp fun h => nb d (Or.inl h), fun d hd => ?_⟩
  refine lt_of_le_of_ne (not_lt.mp fun h => nb d (Or.inl h)) fun h => nb d (Or.inr ⟨h, ?_⟩)
  show (BitVec.ofNat 32 d.val).toInt < (BitVec.ofNat 32 c.val).toInt
  rw [toInt_col, toInt_col]; exact_mod_cast hd

end Cert.ReferenceIdeal.Value

end
-- ==== Proof.Reference.OneHot.lean ====
module

public import proofs.«01_k».proof.Proof.Reference.Argmax
public import Idealize.ShloMosaic.Lib.Routing.OpsPair
public import Idealize.ShloMosaic.Lib.Routing.OpsSet

/-! # The reference's one-hot rows

The reference writes a 1 at one element of each row: a scatter whose update `r` carries the pair of words `(r, column)`.
Both words are small, so wrapping a negative index changes neither. -/

@[expose] public section

set_option maxRecDepth 8192

noncomputable section

namespace Cert.ReferenceIdeal.Value

open Cert.ReferenceIdeal Cert.ReferenceIdeal.Gen Cert.Draw Cert.Value Idealize.ShloMosaic Idealize.ShloMosaic.TcCoe
  Idealize.ShloMosaic.ValueIdx Idealize.ShloMosaic.Routing Idealize.SL.Sem Idealize.ShloMosaic.StableHlo

/-- Update `k` of a scatter of `N` numbers into a matrix, two words each, lands at `(r, c)` exactly when its words, read
signed, are `r` and `c`. -/
theorem lands_row {R C N w : ℕ} (d : ScatterDims ⟨2, ![R, C]⟩ ⟨2, ![N, 2]⟩ ⟨1, ![N]⟩) (hi : d.insertedWindowDims = [0, 1])
    (hs : d.scatterDimsToOperandDims = [0, 1]) (hv : d.indexVectorDim = 1) (idx : IVec ⟨2, ![N, 2]⟩ w)
    (k : Fin N) (r : Fin R) (c : Fin C) :
    d.resultIdx? (ix1 k) idx = some (ix2 r c)
      ↔ (idx (ix2 k (0 : Fin 2))).toInt = r.val ∧ (idx (ix2 k (1 : Fin 2))).toInt = c.val := by
  have all (q : Fin 2) : q = 0 ∨ q = 1 := by match q with | 0 => exact Or.inl rfl | 1 => exact Or.inr rfl
  have mem (q : Fin 2) : q ∈ d.scatterDimsToOperandDims := by
    rw [hs]; rcases all q with rfl | rfl <;> simp
  have win (q : Fin 2) : d.window (ix1 k) q = 0 := by
    unfold ScatterDims.window
    rw [dif_neg fun h => (of_decide_eq_true (List.mem_filter.1 h).2) (by rw [hi]; rcases all q with rfl | rfl <;> simp)]
  have one (q : Fin 1) : (ix1 k q).val = k.val := by match q with | ⟨0, _⟩ => rfl
  have st (q : Fin 2) : d.start (ix1 k) idx q = (idx (ix2 k q)).toInt := by
    unfold ScatterDims.start
    rw [dif_pos (mem q)]
    refine congrArg (fun i => (idx i).toInt) (funext fun b => Fin.ext ?_)
    match b with
    | ⟨0, _⟩ =>
      unfold ScatterDims.siIdx
      rw [dif_neg (by rw [hv]; exact Nat.zero_ne_one)]
      unfold ScatterDims.siCoord
      rw [Fin.val_cast]
      exact one _
    | ⟨1, _⟩ =>
      unfold ScatterDims.siIdx
      rw [dif_pos hv.symm]
      show List.idxOf q d.scatterDimsToOperandDims = q.val
      rw [hs]; rcases all q with rfl | rfl <;> rfl
  rw [resultIdx?_eq_some]
  constructor
  · intro h
    have h0 := h 0
    have h1 := h 1
    rw [st, win] at h0 h1
    exact ⟨(add_zero _).symm.trans h0, (add_zero _).symm.trans h1⟩
  · rintro ⟨h0, h1⟩ q
    rw [st, win]
    rcases all q with rfl | rfl
    · exact (add_zero _).trans h0
    · exact (add_zero _).trans h1

/-- Index words with jnp's wrap of negative ones. -/
def wrapped (a : IVec S128 32) (n : BitVec 32) : IVec S128 32 :=
  select (cmpi .slt a (broadcastInDim S128 ![] bcast_S_S128 (constantI S_ 32 0#32)))
    (addi a (broadcastInDim S128 ![] bcast_S_S128 (constantI S_ 32 n))) a

theorem wrapped_apply (a : IVec S128 32) (n : BitVec 32) (j : S128.Idx) (h : (a j).toNat < 2 ^ 31) :
    wrapped a n j = a j := wrap_of_lt (a j) _ h

/-- The pairs of words. -/
def pairs (a b : IVec S128 32) : IVec S128x2 32 :=
  concatenate S128x2 1 [⟨S128x1, broadcastInDim S128x1 ![0] bcast_S128_S128x1_0 a⟩,
    ⟨S128x1, broadcastInDim S128x1 ![0] bcast_S128_S128x1_0 b⟩] concatenates_S128x1_S128x1_S128x2_d1

theorem col_apply (a : IVec S128 32) (k : Fin 128) :
    broadcastInDim S128x1 ![0] bcast_S128_S128x1_0 a (ix2 k (0 : Fin 1)) = a (ix1 k) := by
  refine congrArg a (funext fun q => Fin.ext ?_)
  match q with | ⟨0, _⟩ => rfl

theorem pairs_left (a b : IVec S128 32) (k : Fin 128) : pairs a b (ix2 k (0 : Fin 2)) = a (ix1 k) := by
  unfold pairs
  exact (concatenate_pair_apply_left (t := S128x2) (s₁ := S128x1) (s₂ := S128x1) 1 _ _ _ (ix2 k (0 : Fin 2)) rfl
    (ix2 k (0 : Fin 1)) (fun q => by match q with | ⟨0, _⟩ => rfl | ⟨1, _⟩ => rfl)).trans (col_apply a k)

theorem pairs_right (a b : IVec S128 32) (k : Fin 128) : pairs a b (ix2 k (1 : Fin 2)) = b (ix1 k) := by
  unfold pairs
  exact (concatenate_pair_apply_right (t := S128x2) (s₁ := S128x1) (s₂ := S128x1) 1 _ _ _ (ix2 k (1 : Fin 2)) rfl rfl
    (ix2 k (0 : Fin 1)) (fun q hq => by match q with | ⟨0, _⟩ => rfl | ⟨1, _⟩ => exact absurd rfl hq) rfl).trans
    (col_apply b k)

/-- The one-hot rows, of the two words per row. -/
def ones (a b : IVec S128 32) : FVec Ideal S128x100000 .f32 :=
  Host.scatter scatter_S128x100000_S128x2_S128_n_01_01_1 (fun _ b => b)
    (broadcastInDim S128x100000 ![] bcast_S_S128x100000 (constant S_ .f32 0x00000000#32)) (pairs a b)
    (broadcastInDim S128 ![] bcast_S_S128 (constant S_ .f32 0x3F800000#32))

/-- With the row's number as the first word: 1 at the column that the second word is, and 0 elsewhere. -/
theorem ones_apply (a b : IVec S128 32) (ha : ∀ k : Fin 128, (a (ix1 k)).toInt = (k.val : ℤ)) (r : Fin 128)
    (c d : Fin 100000) (hb : (b (ix1 r)).toInt = (d.val : ℤ)) :
    ones a b (ix2 r c) = if c = d then 1 else 0 := by
  have land (k : Fin 128) : scatter_S128x100000_S128x2_S128_n_01_01_1.resultIdx? (ix1 k) (pairs a b) = some (ix2 r c)
      ↔ (a (ix1 k)).toInt = (r.val : ℤ) ∧ (b (ix1 k)).toInt = (c.val : ℤ) := by
    rw [lands_row scatter_S128x100000_S128x2_S128_n_01_01_1 rfl rfl rfl, pairs_left, pairs_right]
  unfold ones
  by_cases h : c = d
  · subst h
    rw [if_pos rfl]
    refine scatter_set_hit _ _ _ _ _ _ (fun k _ => ?_) (ix1 r) ((land r).mpr ⟨ha r, hb⟩)
    exact Ideal.ofBits_one_f32
  · rw [if_neg h]
    refine (scatter_set_miss _ _ _ _ _ fun k hk => h ?_).trans Ideal.ofBits_zero_f32
    obtain ⟨k', rfl⟩ : ∃ k' : Fin 128, k = ix1 k' := ⟨k 0, by funext q; match q with | ⟨0, _⟩ => rfl⟩
    obtain ⟨h1, h2⟩ := (land k').mp hk
    rw [ha] at h1
    have e : k' = r := Fin.ext (by exact_mod_cast h1)
    rw [e, hb] at h2
    exact Fin.ext (by exact_mod_cast h2.symm)

/-- The rows' numbers, as words. -/
def rows : IVec S128 32 := iotaInDim S128 32 0

theorem rows_apply (r : Fin 128) : rows (ix1 r) = BitVec.ofNat 32 r.val := rfl

theorem toInt_small {n : ℕ} (h : n < 2 ^ 31) : (BitVec.ofNat 32 n).toInt = (n : ℤ) := by
  rw [BitVec.toInt_eq_toNat_of_lt] <;> simp only [BitVec.toNat_ofNat] <;> omega

theorem toNat_small {n : ℕ} (h : n < 2 ^ 31) : (BitVec.ofNat 32 n).toNat < 2 ^ 31 := by
  simp only [BitVec.toNat_ofNat]; omega

/-- The straight-through form `(h - y) + y` at one element. -/
theorem through_apply (H Y : FVec Ideal S128x100000 .f32) (p : S128x100000.Idx) (h y : ℝ)
    (hH : H p = ((h : ℝ) : EReal)) (hY : Y p = ((y : ℝ) : EReal)) : addf (subf H Y) Y p = ((h : ℝ) : EReal) := by
  have e : addf (subf H Y) Y p = (H p - Y p) + Y p := rfl
  rw [e, hH, hY, sub_add_self]

/-- The reference's result, of its softmax and its columns. -/
def result (Y : FVec Ideal S128x100000 .f32) (col : IVec S128 32) : FVec Ideal S128x100000 .f32 :=
  addf (subf (ones (wrapped rows 128#32) (wrapped col 100000#32)) Y) Y

variable (V : Valuation τ sig (Elt Ideal))

/-- The columns. -/
def colArr : IVec S128 32 :=
  argWhere (F := Ideal) (yArr V) cols (constant (F := Ideal) S_ .f32 0xFF800000#32) (constantI S_ 32 0#32)

open Classical in
/-- For good logits the reference's result is the one-hot rows of the common value. -/
theorem result_eq (hV : Good (xArr V)) : result (yArr V) (colArr V) = hot (xArr V) := by
  funext p
  obtain ⟨r, c, rfl⟩ : ∃ (r : Fin 128) (c : Fin 100000), p = ix2 r c :=
    ⟨p 0, p 1, by funext q; match q with | ⟨0, _⟩ => rfl | ⟨1, _⟩ => rfl⟩
  obtain ⟨y, hy, h0, hlt⟩ := softmax_row V hV r
  obtain ⟨d, hd, top⟩ := argWhere_isTop (yArr V) r fun c => by rw [hy]; exact_mod_cast h0 c
  have top' : IsTop (z (xArr V) r) d := by
    refine (isTop_congr (fun c d => ?_) d).mp top
    rw [hy, hy, EReal.coe_lt_coe_iff]; exact hlt c d
  have hd' : colArr V (ix1 r) = BitVec.ofNat 32 d.val := hd
  have hdl := d.isLt
  have hO : ones (wrapped rows 128#32) (wrapped (colArr V) 100000#32) (ix2 r c) = if c = d then 1 else 0 := by
    refine ones_apply _ _ (fun k => ?_) r c d ?_
    · have hk := k.isLt
      rw [wrapped_apply _ _ _ (by rw [rows_apply]; exact toNat_small (by omega)), rows_apply, toInt_small (by omega)]
    · rw [wrapped_apply _ _ _ (by rw [hd']; exact toNat_small (by omega)), hd', toInt_small (by omega)]
  have hh : hot (xArr V) (ix2 r c) = if c = d then 1 else 0 := by
    have e : hot (xArr V) (ix2 r c) = if IsTop (z (xArr V) r) c then 1 else 0 := rfl
    rw [e]
    by_cases h : c = d
    · rw [if_pos h, if_pos (h ▸ top')]
    · rw [if_neg h, if_neg fun t => h (t.eq top')]
  rw [hh]
  by_cases h : c = d
  · rw [if_pos h] at hO ⊢
    exact through_apply _ _ _ 1 (y c) (by rw [hO]; rfl) (hy c)
  · rw [if_neg h] at hO ⊢
    exact through_apply _ _ _ 0 (y c) (by rw [hO]; rfl) (hy c)

end Cert.ReferenceIdeal.Value

end
-- ==== Proof.Reference.Result.lean ====
module

public import proofs.«01_k».proof.Proof.Reference.OneHot
public import proofs.«01_k».proof.Proof.Reference.Run

/-! # The reference's run on good logits

The run's result, as its operations compose it, is the straight-through expression of the softmax and its columns; on
good logits that is the one-hot matrix of the common value. -/

@[expose] public section

set_option maxRecDepth 8192

noncomputable section

namespace Cert.ReferenceIdeal.Value

open Cert.ReferenceIdeal Cert.ReferenceIdeal.Gen Cert.Draw Cert.Value Idealize.ShloMosaic Idealize.ShloMosaic.TcCoe
  Idealize.ShloMosaic.ValueIdx Idealize.ShloMosaic.Routing Idealize.SL.Sem Idealize.ShloMosaic.StableHlo

/-- From good logits the reference ends with the one-hot matrix as its result and the logits unchanged. -/
theorem run_hot (m : (ℓ : Loc nD τ sig) → Buf (Elt Ideal) ℓ) (ρ : Dev nD → PrngReg)
    (hm : ∀ c : Dev nD, Good (m ((c.tc : Thread nD τ).loc main_arg0))) :
    θ_run defs (onTc (τ := τ) (main (F := Ideal))) ⟨m, fun _ => 0, ρ⟩ fun r => ∀ c : Dev nD,
      r.2.mem ((c.tc : Thread nD τ).loc main_v49) = hot (m ((c.tc : Thread nD τ).loc main_arg0))
        ∧ r.2.mem ((c.tc : Thread nD τ).loc main_arg0) = m ((c.tc : Thread nD τ).loc main_arg0) := by
  refine (θ_run defs _ _).mono (fun r h c => ⟨?_, (h c).2⟩) (run (F := Ideal) m ρ)
  refine (h c).1.trans ?_
  exact result_eq (launchContents m c) (hm c)

end Cert.ReferenceIdeal.Value

end
-- ==== Proof.Value.Precondition.lean ====
module

public import proofs.«01_k».proof.Pre_rows_have_a_finite_maximum
public import proofs.«01_k».proof.Proof.Reference.Softmax

/-! # The precondition read

`rows_have_a_finite_maximum` compares each row's maximum with the two infinities.  Where it holds, no logit is `+∞` and
every row has one that is not `-∞`. -/

@[expose] public section

set_option maxRecDepth 8192

noncomputable section

namespace Cert.Value

open Idealize.ShloMosaic Idealize.ShloMosaic.ValueIdx Cert.Pre_rows_have_a_finite_maximum

/-- The side conditions of the precondition's operations. -/
theorem preFacts : Cert.Pre_rows_have_a_finite_maximum.Facts where
  reducesTo_S128x100000_S128_d1 := Cert.ReferenceIdeal.Gen.reducesTo_S128x100000_S128_d1
  h_S_ := Cert.ReferenceIdeal.Gen.h_S_
  bcast_S_S128 := Cert.ReferenceIdeal.Gen.bcast_S_S128

/-- The pattern of `+∞`. -/
theorem ofBits_pos_inf : Ideal.ofBits .f32 0x7F800000#32 = ⊤ := by simp [Ideal.ofBits, Ideal.ieee]

/-- The two comparisons at one row, at any row maxima. -/
theorem between (M : FVec Ideal S128 .f32) (j : S128.Idx) (lo hi : FVec Ideal S128 .f32)
    (h : andi (cmpf .ogt M lo) (cmpf .olt M hi) j = 1#1) : lo j < M j ∧ M j < hi j := by
  have e : andi (cmpf .ogt M lo) (cmpf .olt M hi) j
      = BitVec.ofBool (decide (lo j < M j)) &&& BitVec.ofBool (decide (M j < hi j)) := rfl
  rw [e, BitVec.ofBool_and_ofBool] at h
  by_cases h1 : lo j < M j
  · by_cases h2 : M j < hi j
    · exact ⟨h1, h2⟩
    · simp [h2] at h
  · simp [h1] at h

/-- Logits that satisfy the precondition are good ones. -/
theorem good_of_pre (x : FVec Ideal Sx .f32)
    (h : (@Cert.Pre_rows_have_a_finite_maximum.fn preFacts Ideal _ x) = fun _ => 1#1) : Good x := by
  intro r
  obtain ⟨h1, h2⟩ := between _ _ _ _ (congrFun h (ix1 r))
  have em := Cert.ReferenceIdeal.Value.reduce_max_apply x (ix1 r)
  have e1 : Ideal.ofBits .f32 0xFF800000#32 < Finset.fold max ⊥ (fun k : Fin 100000 => x (ix2 r k)) Finset.univ := lt_of_lt_of_eq h1 em
  have e2 : Finset.fold max ⊥ (fun k : Fin 100000 => x (ix2 r k)) Finset.univ < Ideal.ofBits .f32 0x7F800000#32 := lt_of_eq_of_lt em.symm h2
  rw [Cert.ReferenceIdeal.Value.ofBits_neg_inf] at e1
  rw [ofBits_pos_inf] at e2
  constructor
  · intro c e
    refine absurd e2 (not_lt.mpr ?_)
    exact (Finset.le_fold_max ⊤).mpr (Or.inr ⟨c, Finset.mem_univ c, e.ge⟩)
  · by_contra hn
    push Not at hn
    refine absurd e1 (not_lt.mpr ?_)
    exact (Finset.fold_max_le ⊥).mpr ⟨le_refl _, fun c _ => (hn c).le⟩

end Cert.Value

end
-- ==== Proof.lean ====
/- The proof of the certificate's claims.  The runs of the three programs are proved in the modules imported here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Kernel.Run
public import proofs.«01_k».proof.Proof.KernelIdeal.Run
public import proofs.«01_k».proof.Proof.KernelIdeal.Value.Final
public import proofs.«01_k».proof.Proof.Reference.Run
public import proofs.«01_k».proof.Proof.Reference.Result
public import proofs.«01_k».proof.Proof.Value.Precondition
public import Idealize.ShloMosaic.Adequacy
public import Idealize.ShloMosaic.Init

@[expose] public section

noncomputable section

namespace Cert.Proof

open Idealize.ShloMosaic Idealize.SL.Sem Cert.Kernel

/-- From memories with the same good logits, the kernel and the reference both end with the one-hot rows. -/
theorem same_value :
    @Cert.algebraic_KernelIdeal_ReferenceIdeal_pre_rows_have_a_finite_maximum Cert.KernelIdeal.Gen.facts
      Cert.ReferenceIdeal.Gen.facts Cert.Value.preFacts := by
  intro m g m' g' hp he
  have hm (c : Dev Cert.KernelIdeal.nD) :
      Cert.Value.Good (m ((c.tc : Thread Cert.KernelIdeal.nD Cert.KernelIdeal.τ).loc Cert.KernelIdeal.main_arg0)) :=
    Cert.Value.good_of_pre _ (hp c)
  refine ⟨fun c => Cert.Value.hot (m ((c.tc : Thread Cert.KernelIdeal.nD Cert.KernelIdeal.τ).loc Cert.KernelIdeal.main_arg0)),
    Cert.KernelIdeal.Gen.run_hot m g hm, ?_⟩
  refine (θ_run _ _ _).mono (fun r h c => ⟨(h c).1.trans (congrArg Cert.Value.hot (he c)), (h c).2⟩)
    (Cert.ReferenceIdeal.Value.run_hot m' g' fun c => ?_)
  have e := he c
  rw [e]
  exact hm c

theorem claim : Cert.Claim :=
  ⟨Cert.Kernel.Gen.facts, Cert.KernelIdeal.Gen.facts, Cert.ReferenceIdeal.Gen.facts, Cert.Value.preFacts,
    fun m ρ _ => Cert.Kernel.Gen.frame_run m ρ,
    fun m ρ _ => Cert.KernelIdeal.Gen.frame_run m ρ, fun m ρ _ => Cert.KernelIdeal.Gen.frame_run m ρ,
    fun m ρ _ => Cert.ReferenceIdeal.Value.frame_run m ρ, fun m ρ _ => Cert.ReferenceIdeal.Value.frame_run m ρ,
    trivial, same_value⟩

end Cert.Proof

end
